-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384 : Shape := ⟨1, ![16384]⟩
abbrev S16384x192 : Shape := ⟨2, ![16384, 192]⟩
abbrev S192x256 : Shape := ⟨2, ![192, 256]⟩
abbrev S256 : Shape := ⟨1, ![256]⟩
abbrev S256x256 : Shape := ⟨2, ![256, 256]⟩
abbrev S256x192 : Shape := ⟨2, ![256, 192]⟩
abbrev S192 : Shape := ⟨1, ![192]⟩
abbrev S1x256 : Shape := ⟨2, ![1, 256]⟩
abbrev S1x192 : Shape := ⟨2, ![1, 192]⟩
abbrev S4x1024x192 : Shape := ⟨3, ![4, 1024, 192]⟩
abbrev S4 : Shape := ⟨1, ![4]⟩
abbrev S2x1024x192 : Shape := ⟨3, ![2, 1024, 192]⟩
abbrev S2 : Shape := ⟨1, ![2]⟩
abbrev S1 : Shape := ⟨1, ![1]⟩
abbrev S_ : Shape := ⟨0, ![]⟩
abbrev S1x1024x192 : Shape := ⟨3, ![1, 1024, 192]⟩
abbrev S1024x192 : Shape := ⟨2, ![1024, 192]⟩
abbrev S1024x256 : Shape := ⟨2, ![1024, 256]⟩

abbrev nBuf : Space → Nat
  | .hbm => 19
  | .vmem => 10
  | .smem => 0
  | _ => 0

abbrev bufTy : (tb : Table) → Fin (tcTables nBuf tb) → BufTy
  | .hbm, ⟨0, _⟩ => ⟨S16384, .f32⟩
  | .hbm, ⟨1, _⟩ => ⟨S16384x192, .f32⟩
  | .hbm, ⟨2, _⟩ => ⟨S192x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x192, .f32⟩
  | .hbm, ⟨9, _⟩ => ⟨S192, .f32⟩
  | .hbm, ⟨10, _⟩ => ⟨S192x256, .bf16⟩
  | .hbm, ⟨11, _⟩ => ⟨S1x256, .f32⟩
  | .hbm, ⟨12, _⟩ => ⟨S256x256, .bf16⟩
  | .hbm, ⟨13, _⟩ => ⟨S1x256, .f32⟩
  | .hbm, ⟨14, _⟩ => ⟨S256x256, .bf16⟩
  | .hbm, ⟨15, _⟩ => ⟨S1x256, .f32⟩
  | .hbm, ⟨16, _⟩ => ⟨S256x192, .bf16⟩
  | .hbm, ⟨17, _⟩ => ⟨S1x192, .f32⟩
  | .hbm, ⟨18, _⟩ => ⟨S16384x192, .f32⟩
  | .local _ .vmem, ⟨0, _⟩ => ⟨S192x256, .bf16⟩
  | .local _ .vmem, ⟨1, _⟩ => ⟨S1x256, .f32⟩
  | .local _ .vmem, ⟨2, _⟩ => ⟨S256x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x192, .bf16⟩
  | .local _ .vmem, ⟨7, _⟩ => ⟨S1x192, .f32⟩
  | .local _ .vmem, ⟨8, _⟩ => ⟨S4x1024x192, .f32⟩
  | .local _ .vmem, ⟨9, _⟩ => ⟨S2x1024x192, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scoped0 : Ref sig .tc := ⟨.vmem, 8, rfl⟩
abbrev cc0_scoped2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

def k0_off1 : Fin 1 → Nat :=
  let c0_i32_22_r0 : BitVec 32 := 0#32
  let c4_i32_r0 : BitVec 32 := 4#32
  let v25_r0 : BitVec 32 := Scalar.remui c0_i32_22_r0 c4_i32_r0
  ![v25_r0.toNat]
def k0_off2 : Fin 3 → Nat :=
  let c0_i32_22_r0 : BitVec 32 := 0#32
  let c4_i32_r0 : BitVec 32 := 4#32
  let v25_r0 : BitVec 32 := Scalar.remui c0_i32_22_r0 c4_i32_r0
  let c0_i32_23_r0 : BitVec 32 := 0#32
  let c0_i32_24_r0 : BitVec 32 := 0#32
  ![v25_r0.toNat, 0, 0]
def k0_cond1 : BitVec 1 :=
  let true_30_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c16_i32_r0 : BitVec 32 := 16#32
  let v7_r0 : BitVec 1 := Scalar.cmpi .eq v6_r0 c16_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_29_r0 : BitVec 32 := 0#32
  let v32_r0 : BitVec 1 := Scalar.cmpi .ne v9_r0 c0_i32_29_r0
  let v33_r0 : BitVec 1 := Scalar.andi true_30_r0 v32_r0
  let true_31_r0 : BitVec 1 := 1#1
  let v34_r0 : BitVec 1 := Scalar.andi v33_r0 true_31_r0
  let v35_r0 : BitVec 32 := Scalar.extui v34_r0
  let c0_i32_32_r0 : BitVec 32 := 0#32
  let v36_r0 : BitVec 1 := Scalar.cmpi .ne v35_r0 c0_i32_32_r0
  v36_r0

def k0_off3 : Fin 1 → Nat :=
  let c0_i32_27_r0 : BitVec 32 := 0#32
  let c1_i32_28_r0 : BitVec 32 := 1#32
  let v31_r0 : BitVec 32 := Scalar.addi c0_i32_27_r0 c1_i32_28_r0
  let c4_i32_79_r0 : BitVec 32 := 4#32
  let v85_r0 : BitVec 32 := Scalar.remui v31_r0 c4_i32_79_r0
  ![v85_r0.toNat]
def k0_off4 : Fin 3 → Nat :=
  let c0_i32_27_r0 : BitVec 32 := 0#32
  let c1_i32_28_r0 : BitVec 32 := 1#32
  let v31_r0 : BitVec 32 := Scalar.addi c0_i32_27_r0 c1_i32_28_r0
  let c4_i32_79_r0 : BitVec 32 := 4#32
  let v85_r0 : BitVec 32 := Scalar.remui v31_r0 c4_i32_79_r0
  let c0_i32_81_r0 : BitVec 32 := 0#32
  let c0_i32_82_r0 : BitVec 32 := 0#32
  ![v85_r0.toNat, 0, 0]
def k0_off5 : Fin 2 → Nat :=
  let c1024_i32_80_r0 : BitVec 32 := 1024#32
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c16_i32_r0 : BitVec 32 := 16#32
  let v7_r0 : BitVec 1 := Scalar.cmpi .eq v6_r0 c16_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let v86_r0 : BitVec 32 := Scalar.muli c1024_i32_80_r0 v9_r0
  let c0_i32_83_r0 : BitVec 32 := 0#32
  ![v86_r0.toNat, 0]
def k0_cond2 : BitVec 1 :=
  let true_34_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c16_i32_r0 : BitVec 32 := 16#32
  let v7_r0 : BitVec 1 := Scalar.cmpi .eq v6_r0 c16_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c16_i32_9_r0 : BitVec 32 := 16#32
  let v12_r0 : BitVec 1 := Scalar.cmpi .eq v11_r0 c16_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_6_r0 : BitVec 32 := 0#32
  let v9_r0 : BitVec 32 := Scalar.addi v8_r0 c0_i32_6_r0
  let v39_r0 : BitVec 1 := Scalar.cmpi .ne v14_r0 v9_r0
  let v40_r0 : BitVec 1 := Scalar.andi true_34_r0 v39_r0
  let true_35_r0 : BitVec 1 := 1#1
  let v41_r0 : BitVec 1 := Scalar.andi v40_r0 true_35_r0
  let v42_r0 : BitVec 32 := Scalar.extui v41_r0
  let c0_i32_36_r0 : BitVec 32 := 0#32
  let v43_r0 : BitVec 1 := Scalar.cmpi .ne v42_r0 c0_i32_36_r0
  v43_r0

def k0_off6 : Fin 1 → Nat :=
  let true_30_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c16_i32_r0 : BitVec 32 := 16#32
  let v7_r0 : BitVec 1 := Scalar.cmpi .eq v6_r0 c16_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_29_r0 : BitVec 32 := 0#32
  let v32_r0 : BitVec 1 := Scalar.cmpi .ne v9_r0 c0_i32_29_r0
  let v33_r0 : BitVec 1 := Scalar.andi true_30_r0 v32_r0
  let c0_i32_27_r0 : BitVec 32 := 0#32
  let c1_i32_28_r0 : BitVec 32 := 1#32
  let v31_r0 : BitVec 32 := Scalar.addi c0_i32_27_r0 c1_i32_28_r0
  let c1_i32_33_r0 : BitVec 32 := 1#32
  let v37_r0 : BitVec 32 := Scalar.addi v31_r0 c1_i32_33_r0
  let v38_r0 : BitVec 32 := Scalar.select v33_r0 v37_r0 v31_r0
  let c4_i32_79_r0 : BitVec 32 := 4#32
  let v85_r0 : BitVec 32 := Scalar.remui v38_r0 c4_i32_79_r0
  ![v85_r0.toNat]
def k0_off7 : Fin 3 → Nat :=
  let true_30_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c16_i32_r0 : BitVec 32 := 16#32
  let v7_r0 : BitVec 1 := Scalar.cmpi .eq v6_r0 c16_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_29_r0 : BitVec 32 := 0#32
  let v32_r0 : BitVec 1 := Scalar.cmpi .ne v9_r0 c0_i32_29_r0
  let v33_r0 : BitVec 1 := Scalar.andi true_30_r0 v32_r0
  let c0_i32_27_r0 : BitVec 32 := 0#32
  let c1_i32_28_r0 : BitVec 32 := 1#32
  let v31_r0 : BitVec 32 := Scalar.addi c0_i32_27_r0 c1_i32_28_r0
  let c1_i32_33_r0 : BitVec 32 := 1#32
  let v37_r0 : BitVec 32 := Scalar.addi v31_r0 c1_i32_33_r0
  let v38_r0 : BitVec 32 := Scalar.select v33_r0 v37_r0 v31_r0
  let c4_i32_79_r0 : BitVec 32 := 4#32
  let v85_r0 : BitVec 32 := Scalar.remui v38_r0 c4_i32_79_r0
  let c0_i32_81_r0 : BitVec 32 := 0#32
  let c0_i32_82_r0 : BitVec 32 := 0#32
  ![v85_r0.toNat, 0, 0]
def k0_off8 : Fin 2 → Nat :=
  let c1024_i32_80_r0 : BitVec 32 := 1024#32
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c16_i32_r0 : BitVec 32 := 16#32
  let v7_r0 : BitVec 1 := Scalar.cmpi .eq v6_r0 c16_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c16_i32_9_r0 : BitVec 32 := 16#32
  let v12_r0 : BitVec 1 := Scalar.cmpi .eq v11_r0 c16_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let v86_r0 : BitVec 32 := Scalar.muli c1024_i32_80_r0 v14_r0
  let c0_i32_83_r0 : BitVec 32 := 0#32
  ![v86_r0.toNat, 0]
@[reducible] def k0_t1_loop : Scf.Loop 32 :=
  let c0_i32_42_r0 : BitVec 32 := 0#32
  let c16_i32_43_r0 : BitVec 32 := 16#32
  let v46_r0 : BitVec 32 := Scalar.addi c0_i32_42_r0 c16_i32_43_r0
  let c1_i32_44_r0 : BitVec 32 := 1#32
  ⟨c0_i32_42_r0, v46_r0, c1_i32_44_r0⟩
def k0_off9 (arg11_r0 : BitVec 32) : Fin 1 → Nat :=
  let c4_i32_159_r0 : BitVec 32 := 4#32
  let v220_r0 : BitVec 32 := Scalar.remui arg11_r0 c4_i32_159_r0
  ![v220_r0.toNat]
def k0_cond3 (k0_t1 : Fin k0_t1_loop.trips) (arg15_r0 : BitVec 32) : BitVec 1 :=
  let true_93_r0 : BitVec 1 := 1#1
  let true_88_r0 : BitVec 1 := 1#1
  let c1_i32_87_r0 : BitVec 32 := 1#32
  let v93_r0 : BitVec 32 := Scalar.addi arg15_r0 c1_i32_87_r0
  let v94_r0 : BitVec 32 := Scalar.select true_88_r0 v93_r0 arg15_r0
  let c16_i32_89_r0 : BitVec 32 := 16#32
  let v95_r0 : BitVec 1 := Scalar.cmpi .eq v94_r0 c16_i32_89_r0
  let c0_i32_90_r0 : BitVec 32 := 0#32
  let v96_r0 : BitVec 32 := Scalar.select v95_r0 c0_i32_90_r0 v94_r0
  let c1_i32_92_r0 : BitVec 32 := 1#32
  let v98_r0 : BitVec 32 := Scalar.addi v96_r0 c1_i32_92_r0
  let v99_r0 : BitVec 32 := Scalar.select true_93_r0 v98_r0 v96_r0
  let c16_i32_94_r0 : BitVec 32 := 16#32
  let v100_r0 : BitVec 1 := Scalar.cmpi .eq v99_r0 c16_i32_94_r0
  let c0_i32_95_r0 : BitVec 32 := 0#32
  let v101_r0 : BitVec 32 := Scalar.select v100_r0 c0_i32_95_r0 v99_r0
  let c0_i32_96_r0 : BitVec 32 := 0#32
  let v102_r0 : BitVec 32 := Scalar.addi v101_r0 c0_i32_96_r0
  let true_98_r0 : BitVec 1 := 1#1
  let c1_i32_97_r0 : BitVec 32 := 1#32
  let v103_r0 : BitVec 32 := Scalar.addi v101_r0 c1_i32_97_r0
  let v104_r0 : BitVec 32 := Scalar.select true_98_r0 v103_r0 v101_r0
  let c16_i32_99_r0 : BitVec 32 := 16#32
  let v105_r0 : BitVec 1 := Scalar.cmpi .eq v104_r0 c16_i32_99_r0
  let c0_i32_100_r0 : BitVec 32 := 0#32
  let v106_r0 : BitVec 32 := Scalar.select v105_r0 c0_i32_100_r0 v104_r0
  let c0_i32_101_r0 : BitVec 32 := 0#32
  let v107_r0 : BitVec 32 := Scalar.addi v106_r0 c0_i32_101_r0
  let v113_r0 : BitVec 1 := Scalar.cmpi .ne v102_r0 v107_r0
  let c0_i32_42_r0 : BitVec 32 := 0#32
  let c1_i32_44_r0 : BitVec 32 := 1#32
  let arg10_r0 : BitVec 32 := Scf.iv c0_i32_42_r0 c1_i32_44_r0 k0_t1
  let c13_i32_r0 : BitVec 32 := 13#32
  let v114_r0 : BitVec 1 := Scalar.cmpi .sge arg10_r0 c13_i32_r0
  let true_107_r0 : BitVec 1 := 1#1
  let v115_r0 : BitVec 1 := Scalar.xori v114_r0 true_107_r0
  let v116_r0 : BitVec 1 := Scalar.andi v113_r0 v115_r0
  let true_108_r0 : BitVec 1 := 1#1
  let v117_r0 : BitVec 1 := Scalar.andi v116_r0 true_108_r0
  let v118_r0 : BitVec 32 := Scalar.extui v117_r0
  let c0_i32_109_r0 : BitVec 32 := 0#32
  let v119_r0 : BitVec 1 := Scalar.cmpi .ne v118_r0 c0_i32_109_r0
  v119_r0

def k0_off10 (arg11_r0 : BitVec 32) : Fin 3 → Nat :=
  let c4_i32_159_r0 : BitVec 32 := 4#32
  let v220_r0 : BitVec 32 := Scalar.remui arg11_r0 c4_i32_159_r0
  let c0_i32_161_r0 : BitVec 32 := 0#32
  let c0_i32_162_r0 : BitVec 32 := 0#32
  ![v220_r0.toNat, 0, 0]
def k0_off11 (arg15_r0 : BitVec 32) : Fin 2 → Nat :=
  let c1024_i32_160_r0 : BitVec 32 := 1024#32
  let true_98_r0 : BitVec 1 := 1#1
  let true_93_r0 : BitVec 1 := 1#1
  let true_88_r0 : BitVec 1 := 1#1
  let c1_i32_87_r0 : BitVec 32 := 1#32
  let v93_r0 : BitVec 32 := Scalar.addi arg15_r0 c1_i32_87_r0
  let v94_r0 : BitVec 32 := Scalar.select true_88_r0 v93_r0 arg15_r0
  let c16_i32_89_r0 : BitVec 32 := 16#32
  let v95_r0 : BitVec 1 := Scalar.cmpi .eq v94_r0 c16_i32_89_r0
  let c0_i32_90_r0 : BitVec 32 := 0#32
  let v96_r0 : BitVec 32 := Scalar.select v95_r0 c0_i32_90_r0 v94_r0
  let c1_i32_92_r0 : BitVec 32 := 1#32
  let v98_r0 : BitVec 32 := Scalar.addi v96_r0 c1_i32_92_r0
  let v99_r0 : BitVec 32 := Scalar.select true_93_r0 v98_r0 v96_r0
  let c16_i32_94_r0 : BitVec 32 := 16#32
  let v100_r0 : BitVec 1 := Scalar.cmpi .eq v99_r0 c16_i32_94_r0
  let c0_i32_95_r0 : BitVec 32 := 0#32
  let v101_r0 : BitVec 32 := Scalar.select v100_r0 c0_i32_95_r0 v99_r0
  let c1_i32_97_r0 : BitVec 32 := 1#32
  let v103_r0 : BitVec 32 := Scalar.addi v101_r0 c1_i32_97_r0
  let v104_r0 : BitVec 32 := Scalar.select true_98_r0 v103_r0 v101_r0
  let c16_i32_99_r0 : BitVec 32 := 16#32
  let v105_r0 : BitVec 1 := Scalar.cmpi .eq v104_r0 c16_i32_99_r0
  let c0_i32_100_r0 : BitVec 32 := 0#32
  let v106_r0 : BitVec 32 := Scalar.select v105_r0 c0_i32_100_r0 v104_r0
  let c0_i32_101_r0 : BitVec 32 := 0#32
  let v107_r0 : BitVec 32 := Scalar.addi v106_r0 c0_i32_101_r0
  let v221_r0 : BitVec 32 := Scalar.muli c1024_i32_160_r0 v107_r0
  let c0_i32_163_r0 : BitVec 32 := 0#32
  ![v221_r0.toNat, 0]
def k0_off12 (arg12_r0 : BitVec 32) : Fin 1 → Nat :=
  let c4_i32_160_r0 : BitVec 32 := 4#32
  let v221_r0 : BitVec 32 := Scalar.remui arg12_r0 c4_i32_160_r0
  ![v221_r0.toNat]
def k0_cond4 (k0_t1 : Fin k0_t1_loop.trips) (arg15_r0 : BitVec 32) : BitVec 1 :=
  let c0_i32_81_r0 : BitVec 32 := 0#32
  let v87_r0 : BitVec 32 := Scalar.addi arg15_r0 c0_i32_81_r0
  let true_83_r0 : BitVec 1 := 1#1
  let c1_i32_82_r0 : BitVec 32 := 1#32
  let v88_r0 : BitVec 32 := Scalar.subi arg15_r0 c1_i32_82_r0
  let v89_r0 : BitVec 32 := Scalar.select true_83_r0 v88_r0 arg15_r0
  let c_m1_i32_84_r0 : BitVec 32 := 4294967295#32
  let v90_r0 : BitVec 1 := Scalar.cmpi .eq v89_r0 c_m1_i32_84_r0
  let c15_i32_85_r0 : BitVec 32 := 15#32
  let v91_r0 : BitVec 32 := Scalar.select v90_r0 c15_i32_85_r0 v89_r0
  let c0_i32_86_r0 : BitVec 32 := 0#32
  let v92_r0 : BitVec 32 := Scalar.addi v91_r0 c0_i32_86_r0
  let v127_r0 : BitVec 1 := Scalar.cmpi .ne v87_r0 v92_r0
  let c0_i32_42_r0 : BitVec 32 := 0#32
  let c1_i32_44_r0 : BitVec 32 := 1#32
  let arg10_r0 : BitVec 32 := Scf.iv c0_i32_42_r0 c1_i32_44_r0 k0_t1
  let c0_i32_79_r0 : BitVec 32 := 0#32
  let v85_r0 : BitVec 1 := Scalar.cmpi .eq arg10_r0 c0_i32_79_r0
  let v128_r0 : BitVec 1 := Scalar.ori v127_r0 v85_r0
  let c0_i32_114_r0 : BitVec 32 := 0#32
  let v129_r0 : BitVec 1 := Scalar.cmpi .sge arg10_r0 c0_i32_114_r0
  let v130_r0 : BitVec 1 := Scalar.andi v128_r0 v129_r0
  let v131_r0 : BitVec 32 := Scalar.extui v130_r0
  let c0_i32_115_r0 : BitVec 32 := 0#32
  let v132_r0 : BitVec 1 := Scalar.cmpi .ne v131_r0 c0_i32_115_r0
  v132_r0

def k0_off13 (arg12_r0 : BitVec 32) : Fin 3 → Nat :=
  let c4_i32_160_r0 : BitVec 32 := 4#32
  let v221_r0 : BitVec 32 := Scalar.remui arg12_r0 c4_i32_160_r0
  let c0_i32_161_r0 : BitVec 32 := 0#32
  let c0_i32_162_r0 : BitVec 32 := 0#32
  ![v221_r0.toNat, 0, 0]
def k0_off14 (arg15_r0 : BitVec 32) : Fin 2 → Nat :=
  let c1024_i32_159_r0 : BitVec 32 := 1024#32
  let c0_i32_81_r0 : BitVec 32 := 0#32
  let v87_r0 : BitVec 32 := Scalar.addi arg15_r0 c0_i32_81_r0
  let v220_r0 : BitVec 32 := Scalar.muli c1024_i32_159_r0 v87_r0
  let c0_i32_163_r0 : BitVec 32 := 0#32
  ![v220_r0.toNat, 0]
def k0_off15 (arg12_r0 : BitVec 32) : Fin 3 → Nat :=
  let c4_i32_118_r0 : BitVec 32 := 4#32
  let v139_r0 : BitVec 32 := Scalar.remui arg12_r0 c4_i32_118_r0
  let v141_r0 : Index := Scalar.indexCast v139_r0
  let c0_r0 : Index := 0#32
  let c0_120_r0 : Index := 0#32
  ![v141_r0.toNat, 0, 0]

def k0_chk2 (arg12_r0 : BitVec 32) : Prop :=
  (∀ a, (k0_off15 arg12_r0) a + S1x1024x192.size a ≤ S4x1024x192.size a)
theorem k0_off15_inb : ∀ (arg12_r0 : BitVec 32) (k0_hw2 : k0_chk2 arg12_r0), ∀ a, (k0_off15 arg12_r0) a + S1x1024x192.size a ≤ S4x1024x192.size a := fun arg12_r0 k0_hw2 => k0_hw2

def k0_off16 (arg13_r0 : BitVec 32) : Fin 3 → Nat :=
  let c2_i32_119_r0 : BitVec 32 := 2#32
  let v140_r0 : BitVec 32 := Scalar.remui arg13_r0 c2_i32_119_r0
  let v182_r0 : Index := Scalar.indexCast v140_r0
  let c0_141_r0 : Index := 0#32
  let c0_142_r0 : Index := 0#32
  ![v182_r0.toNat, 0, 0]

def k0_chk3 (arg13_r0 : BitVec 32) : Prop :=
  (∀ a, (k0_off16 arg13_r0) a + S1x1024x192.size a ≤ S2x1024x192.size a)
theorem k0_off16_inb : ∀ (arg13_r0 : BitVec 32) (k0_hw3 : k0_chk3 arg13_r0), ∀ a, (k0_off16 arg13_r0) a + S1x1024x192.size a ≤ S2x1024x192.size a := fun arg13_r0 k0_hw3 => k0_hw3

def k0_off17 (arg13_r0 : BitVec 32) : Fin 1 → Nat :=
  let c2_i32_159_r0 : BitVec 32 := 2#32
  let v220_r0 : BitVec 32 := Scalar.remui arg13_r0 c2_i32_159_r0
  ![v220_r0.toNat]
def k0_cond7 (k0_t1 : Fin k0_t1_loop.trips) (arg15_r0 : BitVec 32) : BitVec 1 :=
  let c0_i32_81_r0 : BitVec 32 := 0#32
  let v87_r0 : BitVec 32 := Scalar.addi arg15_r0 c0_i32_81_r0
  let true_88_r0 : BitVec 1 := 1#1
  let c1_i32_87_r0 : BitVec 32 := 1#32
  let v93_r0 : BitVec 32 := Scalar.addi arg15_r0 c1_i32_87_r0
  let v94_r0 : BitVec 32 := Scalar.select true_88_r0 v93_r0 arg15_r0
  let c16_i32_89_r0 : BitVec 32 := 16#32
  let v95_r0 : BitVec 1 := Scalar.cmpi .eq v94_r0 c16_i32_89_r0
  let c0_i32_90_r0 : BitVec 32 := 0#32
  let v96_r0 : BitVec 32 := Scalar.select v95_r0 c0_i32_90_r0 v94_r0
  let c0_i32_91_r0 : BitVec 32 := 0#32
  let v97_r0 : BitVec 32 := Scalar.addi v96_r0 c0_i32_91_r0
  let v191_r0 : BitVec 1 := Scalar.cmpi .ne v87_r0 v97_r0
  let c0_i32_42_r0 : BitVec 32 := 0#32
  let c1_i32_44_r0 : BitVec 32 := 1#32
  let arg10_r0 : BitVec 32 := Scf.iv c0_i32_42_r0 c1_i32_44_r0 k0_t1
  let c15_i32_80_r0 : BitVec 32 := 15#32
  let v86_r0 : BitVec 1 := Scalar.cmpi .eq arg10_r0 c15_i32_80_r0
  let v192_r0 : BitVec 1 := Scalar.ori v191_r0 v86_r0
  let v193_r0 : BitVec 32 := Scalar.extui v192_r0
  let c0_i32_144_r0 : BitVec 32 := 0#32
  let v194_r0 : BitVec 1 := Scalar.cmpi .ne v193_r0 c0_i32_144_r0
  v194_r0

def k0_off18 (arg15_r0 : BitVec 32) : Fin 2 → Nat :=
  let c1024_i32_160_r0 : BitVec 32 := 1024#32
  let c0_i32_81_r0 : BitVec 32 := 0#32
  let v87_r0 : BitVec 32 := Scalar.addi arg15_r0 c0_i32_81_r0
  let v221_r0 : BitVec 32 := Scalar.muli c1024_i32_160_r0 v87_r0
  let c0_i32_161_r0 : BitVec 32 := 0#32
  ![v221_r0.toNat, 0]
def k0_off19 (arg13_r0 : BitVec 32) : Fin 3 → Nat :=
  let c2_i32_159_r0 : BitVec 32 := 2#32
  let v220_r0 : BitVec 32 := Scalar.remui arg13_r0 c2_i32_159_r0
  let c0_i32_162_r0 : BitVec 32 := 0#32
  let c0_i32_163_r0 : BitVec 32 := 0#32
  ![v220_r0.toNat, 0, 0]
def k0_off20 (arg14_r0 : BitVec 32) : Fin 1 → Nat :=
  let c2_i32_159_r0 : BitVec 32 := 2#32
  let v220_r0 : BitVec 32 := Scalar.remui arg14_r0 c2_i32_159_r0
  ![v220_r0.toNat]
def k0_cond9 (k0_t1 : Fin k0_t1_loop.trips) (arg15_r0 : BitVec 32) : BitVec 1 :=
  let c0_i32_81_r0 : BitVec 32 := 0#32
  let v87_r0 : BitVec 32 := Scalar.addi arg15_r0 c0_i32_81_r0
  let true_83_r0 : BitVec 1 := 1#1
  let c1_i32_82_r0 : BitVec 32 := 1#32
  let v88_r0 : BitVec 32 := Scalar.subi arg15_r0 c1_i32_82_r0
  let v89_r0 : BitVec 32 := Scalar.select true_83_r0 v88_r0 arg15_r0
  let c_m1_i32_84_r0 : BitVec 32 := 4294967295#32
  let v90_r0 : BitVec 1 := Scalar.cmpi .eq v89_r0 c_m1_i32_84_r0
  let c15_i32_85_r0 : BitVec 32 := 15#32
  let v91_r0 : BitVec 32 := Scalar.select v90_r0 c15_i32_85_r0 v89_r0
  let c0_i32_86_r0 : BitVec 32 := 0#32
  let v92_r0 : BitVec 32 := Scalar.addi v91_r0 c0_i32_86_r0
  let v204_r0 : BitVec 1 := Scalar.cmpi .ne v87_r0 v92_r0
  let c0_i32_42_r0 : BitVec 32 := 0#32
  let c1_i32_44_r0 : BitVec 32 := 1#32
  let arg10_r0 : BitVec 32 := Scf.iv c0_i32_42_r0 c1_i32_44_r0 k0_t1
  let c0_i32_79_r0 : BitVec 32 := 0#32
  let v85_r0 : BitVec 1 := Scalar.cmpi .eq arg10_r0 c0_i32_79_r0
  let true_150_r0 : BitVec 1 := 1#1
  let v205_r0 : BitVec 1 := Scalar.xori v85_r0 true_150_r0
  let v206_r0 : BitVec 1 := Scalar.andi v204_r0 v205_r0
  let v207_r0 : BitVec 32 := Scalar.extui v206_r0
  let c0_i32_151_r0 : BitVec 32 := 0#32
  let v208_r0 : BitVec 1 := Scalar.cmpi .ne v207_r0 c0_i32_151_r0
  v208_r0

def k0_off21 (arg15_r0 : BitVec 32) : Fin 2 → Nat :=
  let c1024_i32_160_r0 : BitVec 32 := 1024#32
  let true_83_r0 : BitVec 1 := 1#1
  let c1_i32_82_r0 : BitVec 32 := 1#32
  let v88_r0 : BitVec 32 := Scalar.subi arg15_r0 c1_i32_82_r0
  let v89_r0 : BitVec 32 := Scalar.select true_83_r0 v88_r0 arg15_r0
  let c_m1_i32_84_r0 : BitVec 32 := 4294967295#32
  let v90_r0 : BitVec 1 := Scalar.cmpi .eq v89_r0 c_m1_i32_84_r0
  let c15_i32_85_r0 : BitVec 32 := 15#32
  let v91_r0 : BitVec 32 := Scalar.select v90_r0 c15_i32_85_r0 v89_r0
  let c0_i32_86_r0 : BitVec 32 := 0#32
  let v92_r0 : BitVec 32 := Scalar.addi v91_r0 c0_i32_86_r0
  let v221_r0 : BitVec 32 := Scalar.muli c1024_i32_160_r0 v92_r0
  let c0_i32_161_r0 : BitVec 32 := 0#32
  ![v221_r0.toNat, 0]
def k0_off22 (arg14_r0 : BitVec 32) : Fin 3 → Nat :=
  let c2_i32_159_r0 : BitVec 32 := 2#32
  let v220_r0 : BitVec 32 := Scalar.remui arg14_r0 c2_i32_159_r0
  let c0_i32_162_r0 : BitVec 32 := 0#32
  let c0_i32_163_r0 : BitVec 32 := 0#32
  ![v220_r0.toNat, 0, 0]

def k0_chk1 (k0_t1 : Fin k0_t1_loop.trips) (arg11_r0 : BitVec 32) (arg12_r0 : BitVec 32) (arg13_r0 : BitVec 32) (arg14_r0 : BitVec 32) (arg15_r0 : BitVec 32) : Prop :=
  (∀ (k0_h3 : k0_cond3 k0_t1 arg15_r0 = 1#1), ∀ a, (k0_off9 arg11_r0) a + S1.size a ≤ S4.size a) ∧
  (∀ (k0_h3 : k0_cond3 k0_t1 arg15_r0 = 1#1), ∀ a, (k0_off10 arg11_r0) a + S1x1024x192.size a ≤ S4x1024x192.size a) ∧
  (∀ (k0_h3 : k0_cond3 k0_t1 arg15_r0 = 1#1), ∀ a, (k0_off11 arg15_r0) a + S1024x192.size a ≤ S16384x192.size a) ∧
  (∀ (k0_h4 : k0_cond4 k0_t1 arg15_r0 = 1#1), ∀ a, (k0_off12 arg12_r0) a + S1.size a ≤ S4.size a) ∧
  (∀ (k0_h4 : k0_cond4 k0_t1 arg15_r0 = 1#1), ∀ a, (k0_off13 arg12_r0) a + S1x1024x192.size a ≤ S4x1024x192.size a) ∧
  (∀ (k0_h4 : k0_cond4 k0_t1 arg15_r0 = 1#1), ∀ a, (k0_off14 arg15_r0) a + S1024x192.size a ≤ S16384x192.size a) ∧
  (∀ (k0_h7 : k0_cond7 k0_t1 arg15_r0 = 1#1), ∀ a, (k0_off17 arg13_r0) a + S1.size a ≤ S2.size a) ∧
  (∀ (k0_h7 : k0_cond7 k0_t1 arg15_r0 = 1#1), ∀ a, (k0_off18 arg15_r0) a + S1024x192.size a ≤ S16384x192.size a) ∧
  (∀ (k0_h7 : k0_cond7 k0_t1 arg15_r0 = 1#1), ∀ a, (k0_off19 arg13_r0) a + S1x1024x192.size a ≤ S2x1024x192.size a) ∧
  (∀ (k0_h9 : k0_cond9 k0_t1 arg15_r0 = 1#1), ∀ a, (k0_off20 arg14_r0) a + S1.size a ≤ S2.size a) ∧
  (∀ (k0_h9 : k0_cond9 k0_t1 arg15_r0 = 1#1), ∀ a, (k0_off21 arg15_r0) a + S1024x192.size a ≤ S16384x192.size a) ∧
  (∀ (k0_h9 : k0_cond9 k0_t1 arg15_r0 = 1#1), ∀ a, (k0_off22 arg14_r0) a + S1x1024x192.size a ≤ S2x1024x192.size a)
theorem k0_off9_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h3 : k0_cond3 k0_t1 arg15_r0 = 1#1), ∀ a, (k0_off9 arg11_r0) a + S1.size a ≤ S4.size a := fun k0_t1 arg11_r0 arg12_r0 arg13_r0 arg14_r0 arg15_r0 k0_hw1 k0_h3 => k0_hw1.1 k0_h3
theorem k0_off10_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h3 : k0_cond3 k0_t1 arg15_r0 = 1#1), ∀ a, (k0_off10 arg11_r0) a + S1x1024x192.size a ≤ S4x1024x192.size a := fun k0_t1 arg11_r0 arg12_r0 arg13_r0 arg14_r0 arg15_r0 k0_hw1 k0_h3 => k0_hw1.2.1 k0_h3
theorem k0_off11_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h3 : k0_cond3 k0_t1 arg15_r0 = 1#1), ∀ a, (k0_off11 arg15_r0) a + S1024x192.size a ≤ S16384x192.size a := fun k0_t1 arg11_r0 arg12_r0 arg13_r0 arg14_r0 arg15_r0 k0_hw1 k0_h3 => k0_hw1.2.2.1 k0_h3
theorem k0_off12_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h4 : k0_cond4 k0_t1 arg15_r0 = 1#1), ∀ a, (k0_off12 arg12_r0) a + S1.size a ≤ S4.size a := fun k0_t1 arg11_r0 arg12_r0 arg13_r0 arg14_r0 arg15_r0 k0_hw1 k0_h4 => k0_hw1.2.2.2.1 k0_h4
theorem k0_off13_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h4 : k0_cond4 k0_t1 arg15_r0 = 1#1), ∀ a, (k0_off13 arg12_r0) a + S1x1024x192.size a ≤ S4x1024x192.size a := fun k0_t1 arg11_r0 arg12_r0 arg13_r0 arg14_r0 arg15_r0 k0_hw1 k0_h4 => k0_hw1.2.2.2.2.1 k0_h4
theorem k0_off14_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h4 : k0_cond4 k0_t1 arg15_r0 = 1#1), ∀ a, (k0_off14 arg15_r0) a + S1024x192.size a ≤ S16384x192.size a := fun k0_t1 arg11_r0 arg12_r0 arg13_r0 arg14_r0 arg15_r0 k0_hw1 k0_h4 => k0_hw1.2.2.2.2.2.1 k0_h4
theorem k0_off17_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h7 : k0_cond7 k0_t1 arg15_r0 = 1#1), ∀ a, (k0_off17 arg13_r0) a + S1.size a ≤ S2.size a := fun k0_t1 arg11_r0 arg12_r0 arg13_r0 arg14_r0 arg15_r0 k0_hw1 k0_h7 => k0_hw1.2.2.2.2.2.2.1 k0_h7
theorem k0_off18_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h7 : k0_cond7 k0_t1 arg15_r0 = 1#1), ∀ a, (k0_off18 arg15_r0) a + S1024x192.size a ≤ S16384x192.size a := fun k0_t1 arg11_r0 arg12_r0 arg13_r0 arg14_r0 arg15_r0 k0_hw1 k0_h7 => k0_hw1.2.2.2.2.2.2.2.1 k0_h7
theorem k0_off19_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h7 : k0_cond7 k0_t1 arg15_r0 = 1#1), ∀ a, (k0_off19 arg13_r0) a + S1x1024x192.size a ≤ S2x1024x192.size a := fun k0_t1 arg11_r0 arg12_r0 arg13_r0 arg14_r0 arg15_r0 k0_hw1 k0_h7 => k0_hw1.2.2.2.2.2.2.2.2.1 k0_h7
theorem k0_off20_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h9 : k0_cond9 k0_t1 arg15_r0 = 1#1), ∀ a, (k0_off20 arg14_r0) a + S1.size a ≤ S2.size a := fun k0_t1 arg11_r0 arg12_r0 arg13_r0 arg14_r0 arg15_r0 k0_hw1 k0_h9 => k0_hw1.2.2.2.2.2.2.2.2.2.1 k0_h9
theorem k0_off21_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h9 : k0_cond9 k0_t1 arg15_r0 = 1#1), ∀ a, (k0_off21 arg15_r0) a + S1024x192.size a ≤ S16384x192.size a := fun k0_t1 arg11_r0 arg12_r0 arg13_r0 arg14_r0 arg15_r0 k0_hw1 k0_h9 => k0_hw1.2.2.2.2.2.2.2.2.2.2.1 k0_h9
theorem k0_off22_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h9 : k0_cond9 k0_t1 arg15_r0 = 1#1), ∀ a, (k0_off22 arg14_r0) a + S1x1024x192.size a ≤ S2x1024x192.size a := fun k0_t1 arg11_r0 arg12_r0 arg13_r0 arg14_r0 arg15_r0 k0_hw1 k0_h9 => k0_hw1.2.2.2.2.2.2.2.2.2.2.2 k0_h9

def k0_off23 (v47_3_r0 : BitVec 32) : Fin 1 → Nat :=
  let c2_i32_r0 : BitVec 32 := 2#32
  let v78_r0 : BitVec 32 := Scalar.remui v47_3_r0 c2_i32_r0
  ![v78_r0.toNat]

def k0_off24 (v47_4_r0 : BitVec 32) : Fin 2 → Nat :=
  let c1024_i32_r0 : BitVec 32 := 1024#32
  let true_47_r0 : BitVec 1 := 1#1
  let c1_i32_46_r0 : BitVec 32 := 1#32
  let v48_r0 : BitVec 32 := Scalar.subi v47_4_r0 c1_i32_46_r0
  let v49_r0 : BitVec 32 := Scalar.select true_47_r0 v48_r0 v47_4_r0
  let c_m1_i32_48_r0 : BitVec 32 := 4294967295#32
  let v50_r0 : BitVec 1 := Scalar.cmpi .eq v49_r0 c_m1_i32_48_r0
  let c15_i32_49_r0 : BitVec 32 := 15#32
  let v51_r0 : BitVec 32 := Scalar.select v50_r0 c15_i32_49_r0 v49_r0
  let c0_i32_50_r0 : BitVec 32 := 0#32
  let v52_r0 : BitVec 32 := Scalar.addi v51_r0 c0_i32_50_r0
  let v79_r0 : BitVec 32 := Scalar.muli c1024_i32_r0 v52_r0
  let c0_i32_76_r0 : BitVec 32 := 0#32
  ![v79_r0.toNat, 0]

def k0_chk5 (v47_4_r0 : BitVec 32) : Prop :=
  (∀ a, (k0_off24 v47_4_r0) a + S1024x192.size a ≤ S16384x192.size a)
theorem k0_off24_inb : ∀ (v47_4_r0 : BitVec 32) (k0_hw5 : k0_chk5 v47_4_r0), ∀ a, (k0_off24 v47_4_r0) a + S1024x192.size a ≤ S16384x192.size a := fun v47_4_r0 k0_hw5 => k0_hw5

def k0_off25 (v47_3_r0 : BitVec 32) : Fin 3 → Nat :=
  let c2_i32_r0 : BitVec 32 := 2#32
  let v78_r0 : BitVec 32 := Scalar.remui v47_3_r0 c2_i32_r0
  let c0_i32_77_r0 : BitVec 32 := 0#32
  let c0_i32_78_r0 : BitVec 32 := 0#32
  ![v78_r0.toNat, 0, 0]

def k0_chk4 (v47_3_r0 : BitVec 32) : Prop :=
  (∀ a, (k0_off23 v47_3_r0) a + S1.size a ≤ S2.size a) ∧
  (∀ a, (k0_off25 v47_3_r0) a + S1x1024x192.size a ≤ S2x1024x192.size a)
theorem k0_off23_inb : ∀ (v47_3_r0 : BitVec 32) (k0_hw4 : k0_chk4 v47_3_r0), ∀ a, (k0_off23 v47_3_r0) a + S1.size a ≤ S2.size a := fun v47_3_r0 k0_hw4 => k0_hw4.1
theorem k0_off25_inb : ∀ (v47_3_r0 : BitVec 32) (k0_hw4 : k0_chk4 v47_3_r0), ∀ a, (k0_off25 v47_3_r0) a + S1x1024x192.size a ≤ S2x1024x192.size a := fun v47_3_r0 k0_hw4 => k0_hw4.2

abbrev stage0_0 : Fin 1 → Memref sig .tc .vmem S192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S16384 : Shape := ⟨1, ![16384]⟩
abbrev S16384x192 : Shape := ⟨2, ![16384, 192]⟩
abbrev S192x256 : Shape := ⟨2, ![192, 256]⟩
abbrev S256 : Shape := ⟨1, ![256]⟩
abbrev S256x256 : Shape := ⟨2, ![256, 256]⟩
abbrev S256x192 : Shape := ⟨2, ![256, 192]⟩
abbrev S192 : Shape := ⟨1, ![192]⟩
abbrev S16384x256 : Shape := ⟨2, ![16384, 256]⟩
abbrev S1x256 : Shape := ⟨2, ![1, 256]⟩
abbrev S_ : Shape := ⟨0, ![]⟩
abbrev S1x192 : Shape := ⟨2, ![1, 192]⟩

abbrev nBuf : Space → Nat
  | .hbm => 47
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384x192, .f32⟩
  | .hbm, ⟨2, _⟩ => ⟨S192x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x192, .f32⟩
  | .hbm, ⟨9, _⟩ => ⟨S192, .f32⟩
  | .hbm, ⟨10, _⟩ => ⟨S16384x256, .f32⟩
  | .hbm, ⟨11, _⟩ => ⟨S1x256, .f32⟩
  | .hbm, ⟨12, _⟩ => ⟨S16384x256, .f32⟩
  | .hbm, ⟨13, _⟩ => ⟨S16384x256, .f32⟩
  | .hbm, ⟨14, _⟩ => ⟨S_, .f32⟩
  | .hbm, ⟨15, _⟩ => ⟨S16384x256, .f32⟩
  | .hbm, ⟨16, _⟩ => ⟨S16384x256, .f32⟩
  | .hbm, ⟨17, _⟩ => ⟨S16384x256, .f32⟩
  | .hbm, ⟨18, _⟩ => ⟨S1x256, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S16384x256, .f32⟩
  | .hbm, ⟨23, _⟩ => ⟨S_, .f32⟩
  | .hbm, ⟨24, _⟩ => ⟨S16384x256, .f32⟩
  | .hbm, ⟨25, _⟩ => ⟨S16384x256, .f32⟩
  | .hbm, ⟨26, _⟩ => ⟨S_, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S1x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S_, .f32⟩
  | .hbm, ⟨37, _⟩ => ⟨S16384x256, .f32⟩
  | .hbm, ⟨38, _⟩ => ⟨S16384x256, .f32⟩
  | .hbm, ⟨39, _⟩ => ⟨S_, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S16384x192, .f32⟩
  | .hbm, ⟨44, _⟩ => ⟨S1x192, .f32⟩
  | .hbm, ⟨45, _⟩ => ⟨S16384x192, .f32⟩
  | .hbm, ⟨46, _⟩ => ⟨S16384x192, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩

abbrev nD : Nat := 1
abbrev τ : Topo := Topo.v7x

variable {F : FTy → Type} [FloatOps F]
-- ==== Proof.Same.lean ====
/-
  The kernel and its idealization are one program: no operation was rewritten, so the two printed bodies, body tables and
  main functions are equal at any float values. The tables are compared label by label (there is one), on each processor.
-/
module

public import proofs.«01_k».proof.Defs
public import proofs.«01_k».proof.Proof.Gen.Kernel
public import proofs.«01_k».proof.Proof.Gen.KernelIdeal

@[expose] public section

noncomputable section

namespace Cert.Proof.Mlp

open Idealize.ShloMosaic

variable {F : FTy → Type} [FloatOps F]

/-- The two body tables agree, -/
theorem same_defs₀ : Cert.Kernel.defs₀ (F := F) = Cert.KernelIdeal.defs₀ (F := F) := by
  funext p l a
  match p, l, a with
  | .tc, 0, (t, s) => rfl
  | .scScalar _, _, _ => rfl
  | .scVector _ _, _, _ => rfl

/-- with the pipeline's entries put on as well, -/
theorem same_defs : Cert.Kernel.defs (F := F) = Cert.KernelIdeal.defs (F := F) :=
  congrArg (Pipeline.defs (Cert.KernelIdeal.pcfgs (F := F))) same_defs₀

/-- and so do the two main functions. -/
theorem same_main : Cert.Kernel.main (F := F) = Cert.KernelIdeal.main (F := F) := rfl

end Cert.Proof.Mlp

end
-- ==== Proof.Names.lean ====
/-
  The names the pipelined kernel's proof uses, and what its loop's carried words are.

  The kernel streams the 16384 rows of `x` in sixteen blocks of 1024 rows. A block is read into one of four slots of a
  VMEM buffer (three blocks ahead of the one being computed), the four layers of the network are computed on it, the
  result goes into one of two slots of a second buffer, and from there back to its place in the result array (its copy is
  waited for one trip later). The loop carries five words: how many reads have been issued, how many have been waited,
  how many writes have been issued, how many have been waited, and the block the trip computes.

  This module gives each block, slot and semaphore one name, says what the five words are before trip `k`, reads every
  offset and every condition the trip computes from them, and states the equations by which the slices the kernel takes
  are those names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

noncomputable section

namespace Cert.Proof.Mlp

open Cert.KernelIdeal Cert.KernelIdeal.Gen
open Idealize.ShloMosaic
open Idealize.ShloMosaic.TcCoe Idealize.ShloMosaic.Tactic
open Idealize.SL.Sem

/-! ## Blocks, slots, semaphores -/

/-- The whole arrays `x` and the result, and the two buffers. -/
abbrev xM : Memref sig .tc .hbm S16384x192 .f32 := Memref.whole main_arg1
abbrev oM : Memref sig .tc .hbm S16384x192 .f32 := Memref.whole main_v8
abbrev rM : Memref sig .tc .vmem S4x1024x192 .f32 := Memref.whole cc0_scoped0
abbrev wM : Memref sig .tc .vmem S2x1024x192 .f32 := Memref.whole cc0_scoped2

/-- Where block `b` starts, and that it lies inside the array. -/
abbrev blkOff (b : Fin 16) : Fin 2 → Nat := ![1024 * b.val, 0]
theorem blkOff_inb (b : Fin 16) : ∀ a, blkOff b a + S1024x192.size a ≤ S16384x192.size a := by
  have := b.isLt; intro a; fin_cases a
  · show 1024 * b.val + 1024 ≤ 16384; omega
  · show 0 + 192 ≤ 192; omega
/-- Where slot `s` of the read buffer starts. -/
abbrev rOff (s : Fin 4) : Fin 3 → Nat := ![s.val, 0, 0]
theorem rOff_inb (s : Fin 4) : ∀ a, rOff s a + S1x1024x192.size a ≤ S4x1024x192.size a := by
  have := s.isLt; intro a; fin_cases a
  · show s.val + 1 ≤ 4; omega
  · show 0 + 1024 ≤ 1024; omega
  · show 0 + 192 ≤ 192; omega
/-- Where slot `s` of the write buffer starts. -/
abbrev wOff (s : Fin 2) : Fin 3 → Nat := ![s.val, 0, 0]
theorem wOff_inb (s : Fin 2) : ∀ a, wOff s a + S1x1024x192.size a ≤ S2x1024x192.size a := by
  have := s.isLt; intro a; fin_cases a
  · show s.val + 1 ≤ 2; omega
  · show 0 + 1024 ≤ 1024; omega
  · show 0 + 192 ≤ 192; omega
/-- Which semaphore of its array goes with a slot. -/
abbrev rsOff (s : Fin 4) : Fin 1 → Nat := ![s.val]
theorem rsOff_inb (s : Fin 4) : ∀ a, rsOff s a + S1.size a ≤ S4.size a := by
  have := s.isLt; intro a; fin_cases a; show s.val + 1 ≤ 4; omega
abbrev wsOff (s : Fin 2) : Fin 1 → Nat := ![s.val]
theorem wsOff_inb (s : Fin 2) : ∀ a, wsOff s a + S1.size a ≤ S2.size a := by
  have := s.isLt; intro a; fin_cases a; show s.val + 1 ≤ 2; omega

/-- Block `b` of `x`. -/
def xblk (b : Fin 16) : Memref sig .tc .hbm S1024x192 .f32 :=
  xM.slice (Rect.unit (s := S16384x192) (blkOff b) S1024x192.size (blkOff_inb b)) (fun _ => rfl)
/-- Block `b` of the result. -/
def oblk (b : Fin 16) : Memref sig .tc .hbm S1024x192 .f32 :=
  oM.slice (Rect.unit (s := S16384x192) (blkOff b) S1024x192.size (blkOff_inb b)) (fun _ => rfl)
/-- Slot `s` of the read buffer, as a block. -/
def rslot (s : Fin 4) : Memref sig .tc .vmem S1024x192 .f32 :=
  (rM.slice (Rect.unit (s := S4x1024x192) (rOff s) S1x1024x192.size (rOff_inb s)) (fun _ => rfl)).squeeze S1024x192 squeezes_S1x1024x192_S1024x192
/-- Slot `s` of the write buffer, as a block. -/
def wslot (s : Fin 2) : Memref sig .tc .vmem S1024x192 .f32 :=
  (wM.slice (Rect.unit (s := S2x1024x192) (wOff s) S1x1024x192.size (wOff_inb s)) (fun _ => rfl)).squeeze S1024x192 squeezes_S1x1024x192_S1024x192
/-- The semaphore of read slot `s`, and of write slot `s`. -/
def rsem (s : Fin 4) : DmaSems sig S_ := (cc0_scoped1.slice (Rect.unit (s := S4) (rsOff s) S1.size (rsOff_inb s))).squeeze S_ squeezes_S1_S_
def wsem (s : Fin 2) : DmaSems sig S_ := (cc0_scoped3.slice (Rect.unit (s := S2) (wsOff s) S1.size (wsOff_inb s))).squeeze S_ squeezes_S1_S_

instance (b : Fin 16) : ClosedOff (blkOff b) := ⟨blkOff b, rfl⟩
instance (s : Fin 4) : ClosedOff (rOff s) := ⟨rOff s, rfl⟩
instance (s : Fin 2) : ClosedOff (wOff s) := ⟨wOff s, rfl⟩

/-! ## The five carried words before trip `k` -/

/-- Reads issued (three ahead, and never more than sixteen), -/
def w11 (k : ℕ) : BitVec 32 := BitVec.ofNat 32 (min (k + 3) 16)
/-- reads waited, -/
def w12 (k : ℕ) : BitVec 32 := BitVec.ofNat 32 k
/-- writes issued, -/
def w13 (k : ℕ) : BitVec 32 := BitVec.ofNat 32 k
/-- writes waited (one behind), -/
def w14 (k : ℕ) : BitVec 32 := BitVec.ofNat 32 (k - 1)
/-- the block the trip computes (back to block 0 after the last). -/
def w15 (k : ℕ) : BitVec 32 := BitVec.ofNat 32 (k % 16)
/-- All five. -/
abbrev words (k : ℕ) : BitVec 32 × BitVec 32 × BitVec 32 × BitVec 32 × BitVec 32 := (w11 k, w12 k, w13 k, w14 k, w15 k)

abbrev Trip : Type := Fin k0_t1_loop.trips

theorem trips_eq : k0_t1_loop.trips = 16 := by decide
theorem trip_lt (k : Trip) : k.val < 16 := Nat.lt_of_lt_of_eq k.isLt trips_eq

/-- A fact of the numbers below 16 is a fact of the trips. -/
theorem forall_trip {P : Trip → Prop} (h : ∀ j : Fin 16, P (j.cast trips_eq.symm)) (k : Trip) : P k := h (k.cast trips_eq)

/-! ### The offsets -/

theorem off9_eq : ∀ k : Trip, k.val + 3 < 16 → k0_off9 (w11 k.val) = rsOff (Ring.sl 4 (k.val + 3)) := by decide +kernel
theorem off10_eq : ∀ k : Trip, k.val + 3 < 16 → k0_off10 (w11 k.val) = rOff (Ring.sl 4 (k.val + 3)) := by decide +kernel
theorem off11_eq : ∀ k : Trip, k.val + 3 < 16 → k0_off11 (w15 k.val) = blkOff (Ring.bk 16 (k.val + 3)) := by decide +kernel
theorem off12_eq : ∀ k : Trip, k0_off12 (w12 k.val) = rsOff (Ring.sl 4 k.val) := by decide +kernel
theorem off13_eq : ∀ k : Trip, k0_off13 (w12 k.val) = rOff (Ring.sl 4 k.val) := by decide +kernel
theorem off14_eq : ∀ k : Trip, k0_off14 (w15 k.val) = blkOff (Ring.bk 16 k.val) := by decide +kernel
theorem off15_eq : ∀ k : Trip, k0_off15 (w12 k.val) = rOff (Ring.sl 4 k.val) := by decide +kernel
theorem off16_eq : ∀ k : Trip, k0_off16 (w13 k.val) = wOff (Ring.sl 2 k.val) := by decide +kernel
theorem off17_eq : ∀ k : Trip, k0_off17 (w13 k.val) = wsOff (Ring.sl 2 k.val) := by decide +kernel
theorem off18_eq : ∀ k : Trip, k0_off18 (w15 k.val) = blkOff (Ring.bk 16 k.val) := by decide +kernel
theorem off19_eq : ∀ k : Trip, k0_off19 (w13 k.val) = wOff (Ring.sl 2 k.val) := by decide +kernel
theorem off20_eq : ∀ k : Trip, 1 ≤ k.val → k0_off20 (w14 k.val) = wsOff (Ring.sl 2 (k.val + 1)) := by decide +kernel
theorem off21_eq : ∀ k : Trip, 1 ≤ k.val → k0_off21 (w15 k.val) = blkOff (Ring.bk 16 (k.val - 1)) := by decide +kernel
theorem off22_eq : ∀ k : Trip, 1 ≤ k.val → k0_off22 (w14 k.val) = wOff (Ring.sl 2 (k.val + 1)) := by decide +kernel

instance (k : Trip) : ClosedOff (k0_off15 (w12 k.val)) := ⟨rOff (Ring.sl 4 k.val), off15_eq k⟩
instance (k : Trip) : ClosedOff (k0_off13 (w12 k.val)) := ⟨rOff (Ring.sl 4 k.val), off13_eq k⟩
instance (k : Trip) : ClosedOff (k0_off16 (w13 k.val)) := ⟨wOff (Ring.sl 2 k.val), off16_eq k⟩
instance (k : Trip) : ClosedOff (k0_off19 (w13 k.val)) := ⟨wOff (Ring.sl 2 k.val), off19_eq k⟩

/-! ### The conditions -/

theorem cond3_pos : ∀ k : Trip, k.val + 3 < 16 → k0_cond3 k (w15 k.val) = 1#1 := by decide +kernel
theorem cond3_neg : ∀ k : Trip, ¬k.val + 3 < 16 → ¬k0_cond3 k (w15 k.val) = 1#1 := by decide +kernel
theorem cond4_pos : ∀ k : Trip, k0_cond4 k (w15 k.val) = 1#1 := by decide +kernel
theorem cond7_pos : ∀ k : Trip, k0_cond7 k (w15 k.val) = 1#1 := by decide +kernel
theorem cond9_pos : ∀ k : Trip, 1 ≤ k.val → k0_cond9 k (w15 k.val) = 1#1 := by decide +kernel
theorem cond9_neg : ∀ k : Trip, ¬1 ≤ k.val → ¬k0_cond9 k (w15 k.val) = 1#1 := by decide +kernel

/-- The trip's own checks of its words. -/
theorem chk1_ok : ∀ k : Trip, k0_chk1 k (w11 k.val) (w12 k.val) (w13 k.val) (w14 k.val) (w15 k.val) := by decide +kernel
theorem chk2_ok : ∀ k : Trip, k0_chk2 (w12 k.val) := by decide +kernel
theorem chk3_ok : ∀ k : Trip, k0_chk3 (w13 k.val) := by decide +kernel

/-! ### After the loop -/

theorem chk4_ok : k0_chk4 (w14 16) := by decide +kernel
theorem chk5_ok : k0_chk5 (w15 16) := by decide +kernel
theorem off23_eq : k0_off23 (w14 16) = wsOff 1 := by decide +kernel
theorem off24_eq : k0_off24 (w15 16) = blkOff 15 := by decide +kernel
theorem off25_eq : k0_off25 (w14 16) = wOff 1 := by decide +kernel

/-! ## The slices the kernel takes are the names -/

section Canon

private theorem rsem_congr {off : Fin 1 → Nat} {s : Fin 4} (e : off = rsOff s) (hh) :
    (cc0_scoped1.slice (Rect.unit (s := S4) off S1.size hh)).squeeze S_ squeezes_S1_S_ = rsem s :=
  congrArg (fun A : DmaSems sig S1 => A.squeeze S_ squeezes_S1_S_) (SemArray.slice_unit_congr _ e _ _)
private theorem wsem_congr {off : Fin 1 → Nat} {s : Fin 2} (e : off = wsOff s) (hh) :
    (cc0_scoped3.slice (Rect.unit (s := S2) off S1.size hh)).squeeze S_ squeezes_S1_S_ = wsem s :=
  congrArg (fun A : DmaSems sig S1 => A.squeeze S_ squeezes_S1_S_) (SemArray.slice_unit_congr _ e _ _)
private theorem rslot_congr {off : Fin 3 → Nat} {s : Fin 4} (e : off = rOff s) (hh hs) :
    (rM.slice (Rect.unit (s := S4x1024x192) off S1x1024x192.size hh) hs).squeeze S1024x192 squeezes_S1x1024x192_S1024x192 = rslot s :=
  congrArg (fun M : Memref sig .tc .vmem S1x1024x192 .f32 => M.squeeze S1024x192 squeezes_S1x1024x192_S1024x192) (Memref.slice_unit_congr _ e _ _ _ _)
private theorem wslot_congr {off : Fin 3 → Nat} {s : Fin 2} (e : off = wOff s) (hh hs) :
    (wM.slice (Rect.unit (s := S2x1024x192) off S1x1024x192.size hh) hs).squeeze S1024x192 squeezes_S1x1024x192_S1024x192 = wslot s :=
  congrArg (fun M : Memref sig .tc .vmem S1x1024x192 .f32 => M.squeeze S1024x192 squeezes_S1x1024x192_S1024x192) (Memref.slice_unit_congr _ e _ _ _ _)
private theorem xblk_congr {off : Fin 2 → Nat} {b : Fin 16} (e : off = blkOff b) (hh hs) :
    xM.slice (Rect.unit (s := S16384x192) off S1024x192.size hh) hs = xblk b := Memref.slice_unit_congr _ e _ _ hs (fun _ => rfl)
private theorem oblk_congr {off : Fin 2 → Nat} {b : Fin 16} (e : off = blkOff b) (hh hs) :
    oM.slice (Rect.unit (s := S16384x192) off S1024x192.size hh) hs = oblk b := Memref.slice_unit_congr _ e _ _ hs (fun _ => rfl)

/-- Before the loop: blocks 0, 1 and 2 into slots 0, 1 and 2. -/
@[sl_canon] theorem rsemP0 (hh) : (cc0_scoped1.slice (Rect.unit (s := S4) k0_off1 S1.size hh)).squeeze S_ squeezes_S1_S_ = rsem 0 := rsem_congr (by decide) _
@[sl_canon] theorem rsemP1 (hh) : (cc0_scoped1.slice (Rect.unit (s := S4) k0_off3 S1.size hh)).squeeze S_ squeezes_S1_S_ = rsem 1 := rsem_congr (by decide) _
@[sl_canon] theorem rsemP2 (hh) : (cc0_scoped1.slice (Rect.unit (s := S4) k0_off6 S1.size hh)).squeeze S_ squeezes_S1_S_ = rsem 2 := rsem_congr (by decide) _
@[sl_canon] theorem rslotP0 (hh hs) : (rM.slice (Rect.unit (s := S4x1024x192) k0_off2 S1x1024x192.size hh) hs).squeeze S1024x192 squeezes_S1x1024x192_S1024x192 = rslot 0 := rslot_congr (by decide) _ _
@[sl_canon] theorem rslotP1 (hh hs) : (rM.slice (Rect.unit (s := S4x1024x192) k0_off4 S1x1024x192.size hh) hs).squeeze S1024x192 squeezes_S1x1024x192_S1024x192 = rslot 1 := rslot_congr (by decide) _ _
@[sl_canon] theorem rslotP2 (hh hs) : (rM.slice (Rect.unit (s := S4x1024x192) k0_off7 S1x1024x192.size hh) hs).squeeze S1024x192 squeezes_S1x1024x192_S1024x192 = rslot 2 := rslot_congr (by decide) _ _
@[sl_canon] theorem xblkP0 (hh hs) : xM.slice (Rect.unit (s := S16384x192) ![0, 0] S1024x192.size hh) hs = xblk 0 := xblk_congr (by decide) _ _
@[sl_canon] theorem xblkP1 (hh hs) : xM.slice (Rect.unit (s := S16384x192) k0_off5 S1024x192.size hh) hs = xblk 1 := xblk_congr (by decide) _ _
@[sl_canon] theorem xblkP2 (hh hs) : xM.slice (Rect.unit (s := S16384x192) k0_off8 S1024x192.size hh) hs = xblk 2 := xblk_congr (by decide) _ _

/-- Trip `k`: the read it issues, -/
@[sl_canon] theorem rsemI (k : Trip) (h : k.val + 3 < 16) (hh) :
    (cc0_scoped1.slice (Rect.unit (s := S4) (k0_off9 (w11 k.val)) S1.size hh)).squeeze S_ squeezes_S1_S_ = rsem (Ring.sl 4 (k.val + 3)) := rsem_congr (off9_eq k h) _
@[sl_canon] theorem rslotI (k : Trip) (h : k.val + 3 < 16) (hh hs) :
    (rM.slice (Rect.unit (s := S4x1024x192) (k0_off10 (w11 k.val)) S1x1024x192.size hh) hs).squeeze S1024x192 squeezes_S1x1024x192_S1024x192 = rslot (Ring.sl 4 (k.val + 3)) := rslot_congr (off10_eq k h) _ _
@[sl_canon] theorem xblkI (k : Trip) (h : k.val + 3 < 16) (hh hs) :
    xM.slice (Rect.unit (s := S16384x192) (k0_off11 (w15 k.val)) S1024x192.size hh) hs = xblk (Ring.bk 16 (k.val + 3)) := xblk_congr (off11_eq k h) _ _
/-- the read it waits for, -/
@[sl_canon] theorem rsemW (k : Trip) (hh) :
    (cc0_scoped1.slice (Rect.unit (s := S4) (k0_off12 (w12 k.val)) S1.size hh)).squeeze S_ squeezes_S1_S_ = rsem (Ring.sl 4 k.val) := rsem_congr (off12_eq k) _
@[sl_canon] theorem rslotW (k : Trip) (hh hs) :
    (rM.slice (Rect.unit (s := S4x1024x192) (k0_off13 (w12 k.val)) S1x1024x192.size hh) hs).squeeze S1024x192 squeezes_S1x1024x192_S1024x192 = rslot (Ring.sl 4 k.val) := rslot_congr (off13_eq k) _ _
@[sl_canon] theorem xblkW (k : Trip) (hh hs) :
    xM.slice (Rect.unit (s := S16384x192) (k0_off14 (w15 k.val)) S1024x192.size hh) hs = xblk (Ring.bk 16 k.val) := xblk_congr (off14_eq k) _ _
/-- the write it issues, -/
@[sl_canon] theorem wsemI (k : Trip) (hh) :
    (cc0_scoped3.slice (Rect.unit (s := S2) (k0_off17 (w13 k.val)) S1.size hh)).squeeze S_ squeezes_S1_S_ = wsem (Ring.sl 2 k.val) := wsem_congr (off17_eq k) _
@[sl_canon] theorem oblkI (k : Trip) (hh hs) :
    oM.slice (Rect.unit (s := S16384x192) (k0_off18 (w15 k.val)) S1024x192.size hh) hs = oblk (Ring.bk 16 k.val) := oblk_congr (off18_eq k) _ _
@[sl_canon] theorem wslotI (k : Trip) (hh hs) :
    (wM.slice (Rect.unit (s := S2x1024x192) (k0_off19 (w13 k.val)) S1x1024x192.size hh) hs).squeeze S1024x192 squeezes_S1x1024x192_S1024x192 = wslot (Ring.sl 2 k.val) := wslot_congr (off19_eq k) _ _
/-- and the write of the trip before, which it waits for. -/
@[sl_canon] theorem wsemW (k : Trip) (h : 1 ≤ k.val) (hh) :
    (cc0_scoped3.slice (Rect.unit (s := S2) (k0_off20 (w14 k.val)) S1.size hh)).squeeze S_ squeezes_S1_S_ = wsem (Ring.sl 2 (k.val + 1)) := wsem_congr (off20_eq k h) _
@[sl_canon] theorem oblkW (k : Trip) (h : 1 ≤ k.val) (hh hs) :
    oM.slice (Rect.unit (s := S16384x192) (k0_off21 (w15 k.val)) S1024x192.size hh) hs = oblk (Ring.bk 16 (k.val - 1)) := oblk_congr (off21_eq k h) _ _
@[sl_canon] theorem wslotW (k : Trip) (h : 1 ≤ k.val) (hh hs) :
    (wM.slice (Rect.unit (s := S2x1024x192) (k0_off22 (w14 k.val)) S1x1024x192.size hh) hs).squeeze S1024x192 squeezes_S1x1024x192_S1024x192 = wslot (Ring.sl 2 (k.val + 1)) := wslot_congr (off22_eq k h) _ _

/-- After the loop: the last block's write. -/
@[sl_canon] theorem wsemE (hh) : (cc0_scoped3.slice (Rect.unit (s := S2) (k0_off23 (w14 16)) S1.size hh)).squeeze S_ squeezes_S1_S_ = wsem 1 := wsem_congr off23_eq _
@[sl_canon] theorem oblkE (hh hs) : oM.slice (Rect.unit (s := S16384x192) (k0_off24 (w15 16)) S1024x192.size hh) hs = oblk 15 := oblk_congr off24_eq _ _
@[sl_canon] theorem wslotE (hh hs) : (wM.slice (Rect.unit (s := S2x1024x192) (k0_off25 (w14 16)) S1x1024x192.size hh) hs).squeeze S1024x192 squeezes_S1x1024x192_S1024x192 = wslot 1 := wslot_congr off25_eq _ _

end Canon

end Cert.Proof.Mlp

end
-- ==== Proof.Trip.lean ====
/-
  One trip of the kernel's loop.

  Trip `k` issues the read of block `k + 3` of `x` (if there is one), waits for block `k`, computes the four layers on it
  into a write slot, issues that slot's copy to block `k` of the result and waits for the copy the trip before issued (if
  there was one). The module names the pieces of memory a trip touches and the states a slot can be in, then runs a trip
  of each of the three kinds: the first (no copy to wait for), a middle one, one of the last three (no read to issue).
-/
module

public import proofs.«01_k».proof.Proof.Names

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the staging pipeline's rounds and the transfers' counters. -/
abbrev UU (nD : Nat) (τ : Topo) : Type := UR sig nD τ × Counters
local notation "𝕄" => MT nD τ sig Unit (Elt F) ℕ (UU nD τ) ℕ
/-- Where the rounds lie in it. -/
abbrev EP : Emb (UR sig nD τ) (MT nD τ sig Unit (Elt F) ℕ (UU nD τ) ℕ) := embL
/-- No loop is proved by a measure. -/
abbrev 𝒱₀ : Variants := Variants.none

section Pieces
variable (c : Dev nD) (XA : Buf (Elt F) (xM.view.loc (c : Thread nD τ)))

/-- The semaphore of read slot `s`, at zero. -/
abbrev rcell (s : Fin 4) : sProp 𝕄 := semVal ((c : Thread nD τ), SemLoc.dma (rsem s).sem) 0
/-- The semaphore of write slot `s`, at zero. -/
abbrev wcell (s : Fin 2) : sProp 𝕄 := semVal ((c : Thread nD τ), SemLoc.dma (wsem s).sem) 0
/-- Read slot `s`, holding `f`. -/
abbrev rP (s : Fin 4) (f : Buf (Elt F) ((rslot s).view.loc (c : Thread nD τ))) : sProp 𝕄 :=
  (rslot s).view.loc (c : Thread nD τ) ↦[(rslot s).view.set]{fullShare} f
/-- Write slot `s`, holding `f`. -/
abbrev wP (s : Fin 2) (f : Buf (Elt F) ((wslot s).view.loc (c : Thread nD τ))) : sProp 𝕄 :=
  (wslot s).view.loc (c : Thread nD τ) ↦[(wslot s).view.set]{fullShare} f
/-- Block `b` of `x`. -/
abbrev xP (b : Fin 16) : sProp 𝕄 := (xblk b).view.loc (c : Thread nD τ) ↦[(xblk b).view.set]{fullShare} XA
/-- Block `b` of the result, in an array that holds `g`. -/
abbrev oP (b : Fin 16) (g : Buf (Elt F) ((oblk b).view.loc (c : Thread nD τ))) : sProp 𝕄 :=
  (oblk b).view.loc (c : Thread nD τ) ↦[(oblk b).view.set]{fullShare} g

/-- What one block's transfer adds to its semaphore. -/
abbrev NN : ℕ := 32768

/-- What the four layers make of one block of 1024 rows: `x` the rows, then each layer's weights and bias as the body loads
    them. It is the body's own arithmetic, with the leading axis of extent one of the buffers' slots taken off. -/
def mlpBlock (x : FVec F S1024x192 .f32) (w1 : Vec F S192x256 .bf16) (b1 : Vec F S1x256 .f32) (w2 : Vec F S256x256 .bf16)
    (b2 : Vec F S1x256 .f32) (w3 : Vec F S256x256 .bf16) (b3 : Vec F S1x256 .f32) (w4 : Vec F S256x192 .bf16)
    (b4 : Vec F S1x192 .f32) : FVec F S1024x192 .f32 :=
  shapeCast S1024x192 (k0_pay2 (k0_pay1 (shapeCast S1x1024x192 x shapeCasts_S1024x192_S1x1024x192) w1) b1 w2 b2 w3 b3 w4 b4)
    shapeCasts_S1x1024x192_S1024x192

/-- Reading a slot without its leading axis is reading the slot and dropping the axis. -/
theorem slot_cast_cast (v : Vec F S1x1024x192 .f32) :
    shapeCast S1x1024x192 (shapeCast S1024x192 v shapeCasts_S1x1024x192_S1024x192) shapeCasts_S1024x192_S1x1024x192 = v := by
  funext i
  show v (Shape.reshapeEquiv _ (Shape.reshapeEquiv _ i)) = v i
  rw [Shape.reshapeEquiv_reshapeEquiv, Shape.reshapeEquiv_self]

/-- A read through a view of a content just written through the whole of it gives what was written. -/
theorem read_writes_whole {sp : Space} {s : Shape} {e : EltTy} (v : View sig .tc sp s e) (g : v.ty.Contents (Elt F)) (w : s.Idx → Elt F e) :
    v.read (Elt F) (v.writes (Elt F) g [⟨Rect.whole s, w⟩]) = w := by
  funext y
  have h := v.read_slice_write_emb (Val := Elt F) (Rect.whole s) g w (Finset.mem_univ y)
  rw [Rect.emb_whole_apply] at h
  exact h

/-- The block the body stores in the write slot of its trip, from the rows its read slot holds. -/
theorem stored_eq (r : Fin 4) (s : Fin 2) {o15 o16 : Fin 3 → ℕ} (e15 : o15 = rOff r) (e16 : o16 = wOff s)
    (i15 : ∀ a, o15 a + S1x1024x192.size a ≤ S4x1024x192.size a) (i16 : ∀ a, o16 a + S1x1024x192.size a ≤ S2x1024x192.size a)
    (f : (rslot r).view.ty.Contents (Elt F)) (fw : (wslot s).view.ty.Contents (Elt F)) (x : S1024x192.Idx → Elt F .f32)
    (hx : (rslot r).view.read (Elt F) f = x) (w1 : Vec F S192x256 .bf16) (b1 : Vec F S1x256 .f32) (w2 : Vec F S256x256 .bf16)
    (b2 : Vec F S1x256 .f32) (w3 : Vec F S256x256 .bf16) (b3 : Vec F S1x256 .f32) (w4 : Vec F S256x192 .bf16) (b4 : Vec F S1x192 .f32) :
    (wslot s).view.read (Elt F) ((wM.access (Rect.unit (s := S2x1024x192) o16 S1x1024x192.size i16)).write (Elt F) fw
        (k0_pay2 (k0_pay1 (rM.view.readAt (Elt F) (Rect.unit (s := S4x1024x192) o15 S1x1024x192.size i15).toLoadRect f) w1)
          b1 w2 b2 w3 b3 w4 b4) Finset.univ)
      = mlpBlock x w1 b1 w2 b2 w3 b3 w4 b4 := by
  subst e15 e16 hx
  have e := slot_cast_cast (F := F) (rM.view.readAt (Elt F) (Rect.unit (s := S4x1024x192) (rOff r) S1x1024x192.size i15).toLoadRect f)
  unfold mlpBlock
  rw [show (rslot r).view.read (Elt F) f
      = shapeCast S1024x192 (rM.view.readAt (Elt F) (Rect.unit (s := S4x1024x192) (rOff r) S1x1024x192.size i15).toLoadRect f)
        shapeCasts_S1x1024x192_S1024x192 from rfl, e]
  funext y
  exact congrFun (View.read_write_univ (v := wM.access (Rect.unit (s := S2x1024x192) (wOff s) S1x1024x192.size i16)) fw _)
    (Shape.reshapeEquiv _ y)

/-- Read slot `s` free: its semaphore at zero, the slot at whatever it holds. -/
def rfree (s : Fin 4) : sProp 𝕄 := iprop(rcell c s ∗ ∃ f, rP c s f)
/-- Block `b` of `x` on its way into read slot `s`, which will read as the block. -/
def rinfl (s : Fin 4) (b : Fin 16) : sProp 𝕄 :=
  iprop(∃ f, ⌜(rslot s).view.read (Elt F) f = (xblk b).view.read (Elt F) XA⌝
    ∗ Transfers.Flight countersEmb (c : Thread nD τ) (SemLoc.dma (rsem s).sem) () NN iprop(rP c s f ∗ xP c XA b))
/-- Write slot `s` free. -/
def wfree (s : Fin 2) : sProp 𝕄 := iprop(wcell c s ∗ ∃ f, wP c s f)

end Pieces

section Trip

variable (c : Dev nD) (XA : Buf (Elt F) (xM.view.loc (c : Thread nD τ)))
  (arg1 : Memref sig .tc .vmem S192x256 .bf16) (harg1 : arg1.IsWhole) (arg2 : Memref sig .tc .vmem S1x256 .f32) (harg2 : arg2.IsWhole)
  (arg3 : Memref sig .tc .vmem S256x256 .bf16) (harg3 : arg3.IsWhole) (arg4 : Memref sig .tc .vmem S1x256 .f32) (harg4 : arg4.IsWhole)
  (arg5 : Memref sig .tc .vmem S256x256 .bf16) (harg5 : arg5.IsWhole) (arg6 : Memref sig .tc .vmem S1x256 .f32) (harg6 : arg6.IsWhole)
  (arg7 : Memref sig .tc .vmem S256x192 .bf16) (harg7 : arg7.IsWhole) (arg8 : Memref sig .tc .vmem S1x192 .f32) (harg8 : arg8.IsWhole)
  (v9 v14 : BitVec 32)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))
  (g5 : Buf (Elt F) (arg5.view.loc (c : Thread nD τ))) (g6 : Buf (Elt F) (arg6.view.loc (c : Thread nD τ)))
  (g7 : Buf (Elt F) (arg7.view.loc (c : Thread nD τ))) (g8 : Buf (Elt F) (arg8.view.loc (c : Thread nD τ)))

/-- The staged weights and biases. -/
abbrev wins : sProp 𝕄 := iprop(
  (arg1.view.loc (c : Thread nD τ) ↦[arg1.view.set]{fullShare} g1) ∗ (arg2.view.loc (c : Thread nD τ) ↦[arg2.view.set]{fullShare} g2)
  ∗ (arg3.view.loc (c : Thread nD τ) ↦[arg3.view.set]{fullShare} g3) ∗ (arg4.view.loc (c : Thread nD τ) ↦[arg4.view.set]{fullShare} g4)
  ∗ (arg5.view.loc (c : Thread nD τ) ↦[arg5.view.set]{fullShare} g5) ∗ (arg6.view.loc (c : Thread nD τ) ↦[arg6.view.set]{fullShare} g6)
  ∗ (arg7.view.loc (c : Thread nD τ) ↦[arg7.view.set]{fullShare} g7) ∗ (arg8.view.loc (c : Thread nD τ) ↦[arg8.view.set]{fullShare} g8))

/-- The block of the result trip `b` computes: the four layers on block `b` of `x`, with the staged weights and biases. -/
def outVal (b : Fin 16) : S1024x192.Idx → Elt F .f32 :=
  mlpBlock ((xblk b).view.read (Elt F) XA)
    (arg1.view.readAt (Elt F) (Rect.unit (s := S192x256) ![0, 0] S192x256.size inb_S192x256_S192x256_0_0).toLoadRect g1)
    (arg2.view.readAt (Elt F) (Rect.unit (s := S1x256) ![0, 0] S1x256.size inb_S1x256_S1x256_0_0).toLoadRect g2)
    (arg3.view.readAt (Elt F) (Rect.unit (s := S256x256) ![0, 0] S256x256.size inb_S256x256_S256x256_0_0).toLoadRect g3)
    (arg4.view.readAt (Elt F) (Rect.unit (s := S1x256) ![0, 0] S1x256.size inb_S1x256_S1x256_0_0).toLoadRect g4)
    (arg5.view.readAt (Elt F) (Rect.unit (s := S256x256) ![0, 0] S256x256.size inb_S256x256_S256x256_0_0).toLoadRect g5)
    (arg6.view.readAt (Elt F) (Rect.unit (s := S1x256) ![0, 0] S1x256.size inb_S1x256_S1x256_0_0).toLoadRect g6)
    (arg7.view.readAt (Elt F) (Rect.unit (s := S256x192) ![0, 0] S256x192.size inb_S256x192_S256x192_0_0).toLoadRect g7)
    (arg8.view.readAt (Elt F) (Rect.unit (s := S1x192) ![0, 0] S1x192.size inb_S1x192_S1x192_0_0).toLoadRect g8)

/-- Block `b` of the result, with the trip's value in it. -/
def odone (val : Fin 16 → S1024x192.Idx → Elt F .f32) (b : Fin 16) : sProp 𝕄 :=
  iprop(∃ g, ⌜(oblk b).view.read (Elt F) g = val b⌝ ∗ oP c b g)
/-- Write slot `s` on its way to block `b` of the result, which will hold the trip's value. -/
def winfl (val : Fin 16 → S1024x192.Idx → Elt F .f32) (s : Fin 2) (b : Fin 16) : sProp 𝕄 :=
  iprop(∃ f g, ⌜(oblk b).view.read (Elt F) g = val b⌝
    ∗ Transfers.Flight countersEmb (c : Thread nD τ) (SemLoc.dma (wsem s).sem) () NN iprop(oP c b g ∗ wP c s f))
/-- Block `b` of the result, at whatever it holds. -/
def oany (b : Fin 16) : sProp 𝕄 := iprop(∃ g, oP c b g)

/-- Trip `k` at the words it carries. -/
abbrev tripG (k : Trip) : Prog (TpuEff nD τ sig (Elt F) Λ₀ .tc) (BitVec 32 × BitVec 32 × BitVec 32 × BitVec 32 × BitVec 32) :=
  k0_t1_body (F := F) xM (Memref.isWhole_whole _) arg1 harg1 arg2 harg2 arg3 harg3 arg4 harg4 arg5 harg5 arg6 harg6 arg7 harg7 arg8 harg8
    oM (Memref.isWhole_whole _) rM (Memref.isWhole_whole _) cc0_scoped1 wM (Memref.isWhole_whole _) cc0_scoped3 v9 v14 k (words k.val)

/-- The first trip: it issues a read and has no copy to wait for. -/
theorem trip_first (k : Trip) (h3 : k.val + 3 < 16) (h1 : ¬1 ≤ k.val) (Q : _ → sProp 𝕄) :
    iprop(wins c arg1 arg2 arg3 arg4 arg5 arg6 arg7 arg8 g1 g2 g3 g4 g5 g6 g7 g8
        ∗ (∃ W, owes (c : Thread nD τ) 0 W)
        ∗ xP c XA (Ring.bk 16 (k.val + 3))
        ∗ rfree c (Ring.sl 4 (k.val + 3))
        ∗ rinfl c XA (Ring.sl 4 k.val) (Ring.bk 16 k.val)
        ∗ oany c (Ring.bk 16 k.val)
        ∗ wfree c (Ring.sl 2 k.val)
        ∗ (iprop(wins c arg1 arg2 arg3 arg4 arg5 arg6 arg7 arg8 g1 g2 g3 g4 g5 g6 g7 g8
            ∗ (∃ W, owes (c : Thread nD τ) 0 W)
            ∗ rinfl c XA (Ring.sl 4 (k.val + 3)) (Ring.bk 16 (k.val + 3))
            ∗ xP c XA (Ring.bk 16 k.val)
            ∗ rfree c (Ring.sl 4 k.val)
            ∗ winfl c (outVal c XA arg1 arg2 arg3 arg4 arg5 arg6 arg7 arg8 g1 g2 g3 g4 g5 g6 g7 g8) (Ring.sl 2 k.val) (Ring.bk 16 k.val)) -∗ Q (words (k.val + 1))))
      ⊢ wp frame (wpE (defs₀ (F := F)) 𝒱₀ (c : Thread nD τ) none) Set.univ
          (tripG arg1 harg1 arg2 harg2 arg3 harg3 arg4 harg4 arg5 harg5 arg6 harg6 arg7 harg7 arg8 harg8 v9 v14 k) Q := by
  unfold rinfl rfree wfree winfl oany
  iintro ⟨⟨H1, H2, H3, H4, H5, H6, H7, H8⟩, ⟨%W, HW⟩, Hx, ⟨Hrc, ⟨%fr, Hr⟩⟩, ⟨%f, %hf, HF⟩, ⟨%g, Ho⟩, ⟨Hwc, ⟨%fw, Hw⟩⟩, Hk⟩
  have c1 := chk1_ok k
  have c2 := chk2_ok k
  have c3 := chk3_ok k
  have d3 := cond3_pos k h3
  have d4 := cond4_pos k
  have d7 := cond7_pos k
  have d9 := cond9_neg k h1
  dsimp only [tripG, words]
  sl_unfold [k0_t1_body]
  sl_exec
  have ew : ∀ k : Trip, k.val + 3 < 16 → ¬1 ≤ k.val → (trip_first.sl.v122_r0 k, trip_first.sl.v215_r0 k, trip_first.sl.v197_r0 k, trip_first.sl.v211_r0 k,
      trip_first.sl.v96_r0 k) = words (k.val + 1) := by decide +kernel
  sl_step
  rw [ew k h3 h1]
  iapply Hk
  isplitl [H1 H2 H3 H4 H5 H6 H7 H8]
  · isplitl [H1]; iexact H1
    isplitl [H2]; iexact H2
    isplitl [H3]; iexact H3
    isplitl [H4]; iexact H4
    isplitl [H5]; iexact H5
    isplitl [H6]; iexact H6
    isplitl [H7]; iexact H7
    iexact H8
  isplitl [HW]
  · iexists _; iexact HW
  isplitl [Hrc]
  · iexists _
    isplitr
    rotate_left
    · iexact Hrc
    ipureintro
    exact read_writes_whole (F := F) (rslot (Ring.sl 4 (k.val + 3))).view fr _
  isplitl [HF_src]; iexact HF_src
  isplitl [HF HF_dst]
  · isplitl [HF]; iexact HF
    iexists f; iexact HF_dst
  iexists _; iexists _
  isplitr
  rotate_left
  · iexact Hwc
  ipureintro
  refine (read_writes_whole (F := F) (oblk (Ring.bk 16 k.val)).view g _).trans ?_
  exact stored_eq (F := F) (Ring.sl 4 k.val) (Ring.sl 2 k.val) (off15_eq k) (off16_eq k) _ _ f fw _ hf _ _ _ _ _ _ _ _

/-- A middle trip: it issues a read and waits for the copy of the trip before. -/
theorem trip_mid (k : Trip) (h3 : k.val + 3 < 16) (h1 : 1 ≤ k.val) (Q : _ → sProp 𝕄) :
    iprop(wins c arg1 arg2 arg3 arg4 arg5 arg6 arg7 arg8 g1 g2 g3 g4 g5 g6 g7 g8
        ∗ (∃ W, owes (c : Thread nD τ) 0 W)
        ∗ xP c XA (Ring.bk 16 (k.val + 3))
        ∗ rfree c (Ring.sl 4 (k.val + 3))
        ∗ rinfl c XA (Ring.sl 4 k.val) (Ring.bk 16 k.val)
        ∗ oany c (Ring.bk 16 k.val)
        ∗ wfree c (Ring.sl 2 k.val)
        ∗ winfl c (outVal c XA arg1 arg2 arg3 arg4 arg5 arg6 arg7 arg8 g1 g2 g3 g4 g5 g6 g7 g8) (Ring.sl 2 (k.val + 1)) (Ring.bk 16 (k.val - 1))
        ∗ (iprop(wins c arg1 arg2 arg3 arg4 arg5 arg6 arg7 arg8 g1 g2 g3 g4 g5 g6 g7 g8
            ∗ (∃ W, owes (c : Thread nD τ) 0 W)
            ∗ rinfl c XA (Ring.sl 4 (k.val + 3)) (Ring.bk 16 (k.val + 3))
            ∗ xP c XA (Ring.bk 16 k.val)
            ∗ rfree c (Ring.sl 4 k.val)
            ∗ winfl c (outVal c XA arg1 arg2 arg3 arg4 arg5 arg6 arg7 arg8 g1 g2 g3 g4 g5 g6 g7 g8) (Ring.sl 2 k.val) (Ring.bk 16 k.val)
            ∗ wfree c (Ring.sl 2 (k.val + 1))
            ∗ odone c (outVal c XA arg1 arg2 arg3 arg4 arg5 arg6 arg7 arg8 g1 g2 g3 g4 g5 g6 g7 g8) (Ring.bk 16 (k.val - 1))) -∗ Q (words (k.val + 1))))
      ⊢ wp frame (wpE (defs₀ (F := F)) 𝒱₀ (c : Thread nD τ) none) Set.univ
          (tripG arg1 harg1 arg2 harg2 arg3 harg3 arg4 harg4 arg5 harg5 arg6 harg6 arg7 harg7 arg8 harg8 v9 v14 k) Q := by
  unfold rinfl rfree wfree winfl oany odone
  iintro ⟨⟨H1, H2, H3, H4, H5, H6, H7, H8⟩, ⟨%W, HW⟩, Hx, ⟨Hrc, ⟨%fr, Hr⟩⟩, ⟨%f, %hf, HF⟩, ⟨%g, Ho⟩, ⟨Hwc, ⟨%fw, Hw⟩⟩, ⟨%fw', %g', %hg', HG⟩, Hk⟩
  have c1 := chk1_ok k
  have c2 := chk2_ok k
  have c3 := chk3_ok k
  have d3 := cond3_pos k h3
  have d4 := cond4_pos k
  have d7 := cond7_pos k
  have d9 := cond9_pos k h1
  dsimp only [tripG, words]
  sl_unfold [k0_t1_body]
  sl_exec
  have ew : ∀ k : Trip, k.val + 3 < 16 → 1 ≤ k.val → (trip_mid.sl.v122_r0 k, trip_mid.sl.v215_r0 k, trip_mid.sl.v197_r0 k, trip_mid.sl.v211_r0 k,
      trip_mid.sl.v96_r0 k) = words (k.val + 1) := by decide +kernel
  sl_step
  rw [ew k h3 h1]
  iapply Hk
  isplitl [H1 H2 H3 H4 H5 H6 H7 H8]
  · isplitl [H1]; iexact H1
    isplitl [H2]; iexact H2
    isplitl [H3]; iexact H3
    isplitl [H4]; iexact H4
    isplitl [H5]; iexact H5
    isplitl [H6]; iexact H6
    isplitl [H7]; iexact H7
    iexact H8
  isplitl [HW]
  · iexists _; iexact HW
  isplitl [Hrc]
  · iexists _
    isplitr
    rotate_left
    · iexact Hrc
    ipureintro
    exact read_writes_whole (F := F) (rslot (Ring.sl 4 (k.val + 3))).view fr _
  isplitl [HF_src]; iexact HF_src
  isplitl [HF HF_dst]
  · isplitl [HF]; iexact HF
    iexists f; iexact HF_dst
  isplitl [Hwc]
  · iexists _; iexists _
    isplitr
    rotate_left
    · iexact Hwc
    ipureintro
    refine (read_writes_whole (F := F) (oblk (Ring.bk 16 k.val)).view g _).trans ?_
    exact stored_eq (F := F) (Ring.sl 4 k.val) (Ring.sl 2 k.val) (off15_eq k) (off16_eq k) _ _ f fw _ hf _ _ _ _ _ _ _ _
  isplitl [HG HG_src]
  · isplitl [HG]; iexact HG
    iexists _; iexact HG_src
  iexists g'
  isplitr
  · ipureintro; exact hg'
  iexact HG_dst

/-- One of the last three trips: it has no read to issue and waits for the copy of the trip before. -/
theorem trip_last (k : Trip) (h3 : ¬k.val + 3 < 16) (h1 : 1 ≤ k.val) (Q : _ → sProp 𝕄) :
    iprop(wins c arg1 arg2 arg3 arg4 arg5 arg6 arg7 arg8 g1 g2 g3 g4 g5 g6 g7 g8
        ∗ (∃ W, owes (c : Thread nD τ) 0 W)
        ∗ rinfl c XA (Ring.sl 4 k.val) (Ring.bk 16 k.val)
        ∗ oany c (Ring.bk 16 k.val)
        ∗ wfree c (Ring.sl 2 k.val)
        ∗ winfl c (outVal c XA arg1 arg2 arg3 arg4 arg5 arg6 arg7 arg8 g1 g2 g3 g4 g5 g6 g7 g8) (Ring.sl 2 (k.val + 1)) (Ring.bk 16 (k.val - 1))
        ∗ (iprop(wins c arg1 arg2 arg3 arg4 arg5 arg6 arg7 arg8 g1 g2 g3 g4 g5 g6 g7 g8
            ∗ (∃ W, owes (c : Thread nD τ) 0 W)
            ∗ xP c XA (Ring.bk 16 k.val)
            ∗ rfree c (Ring.sl 4 k.val)
            ∗ winfl c (outVal c XA arg1 arg2 arg3 arg4 arg5 arg6 arg7 arg8 g1 g2 g3 g4 g5 g6 g7 g8) (Ring.sl 2 k.val) (Ring.bk 16 k.val)
            ∗ wfree c (Ring.sl 2 (k.val + 1))
            ∗ odone c (outVal c XA arg1 arg2 arg3 arg4 arg5 arg6 arg7 arg8 g1 g2 g3 g4 g5 g6 g7 g8) (Ring.bk 16 (k.val - 1))) -∗ Q (words (k.val + 1))))
      ⊢ wp frame (wpE (defs₀ (F := F)) 𝒱₀ (c : Thread nD τ) none) Set.univ
          (tripG arg1 harg1 arg2 harg2 arg3 harg3 arg4 harg4 arg5 harg5 arg6 harg6 arg7 harg7 arg8 harg8 v9 v14 k) Q := by
  unfold rinfl rfree wfree winfl oany odone
  iintro ⟨⟨H1, H2, H3, H4, H5, H6, H7, H8⟩, ⟨%W, HW⟩, ⟨%f, %hf, HF⟩, ⟨%g, Ho⟩, ⟨Hwc, ⟨%fw, Hw⟩⟩, ⟨%fw', %g', %hg', HG⟩, Hk⟩
  have c1 := chk1_ok k
  have c2 := chk2_ok k
  have c3 := chk3_ok k
  have d3 := cond3_neg k h3
  have d4 := cond4_pos k
  have d7 := cond7_pos k
  have d9 := cond9_pos k h1
  dsimp only [tripG, words]
  sl_unfold [k0_t1_body]
  sl_exec
  have ew : ∀ k : Trip, ¬k.val + 3 < 16 → 1 ≤ k.val → (trip_last.sl.v122_r0 k, trip_last.sl.v215_r0 k, trip_last.sl.v197_r0 k, trip_last.sl.v211_r0 k,
      trip_last.sl.v96_r0 k) = words (k.val + 1) := by decide +kernel
  sl_step
  rw [ew k h3 h1]
  iapply Hk
  isplitl [H1 H2 H3 H4 H5 H6 H7 H8]
  · isplitl [H1]; iexact H1
    isplitl [H2]; iexact H2
    isplitl [H3]; iexact H3
    isplitl [H4]; iexact H4
    isplitl [H5]; iexact H5
    isplitl [H6]; iexact H6
    isplitl [H7]; iexact H7
    iexact H8
  isplitl [HW]
  · iexists _; iexact HW
  isplitl [HF_src]; iexact HF_src
  isplitl [HF HF_dst]
  · isplitl [HF]; iexact HF
    iexists f; iexact HF_dst
  isplitl [Hwc]
  · iexists _; iexists _
    isplitr
    rotate_left
    · iexact Hwc
    ipureintro
    refine (read_writes_whole (F := F) (oblk (Ring.bk 16 k.val)).view g _).trans ?_
    exact stored_eq (F := F) (Ring.sl 4 k.val) (Ring.sl 2 k.val) (off15_eq k) (off16_eq k) _ _ f fw _ hf _ _ _ _ _ _ _ _
  isplitl [HG HG_src]
  · isplitl [HG]; iexact HG
    iexists _; iexact HG_src
  iexists g'
  isplitr
  · ipureintro; exact hg'
  iexact HG_dst

end Trip
end Cert.Proof.Mlp
end
-- ==== Proof.Loop.lean ====
/-
  The kernel's loop: its invariant, and that each trip keeps it.

  Before trip `k` the slots of the two rings are each free or on their way, which one being a matter of `k` alone
  (`rest`). For each kind of trip, `rest` is taken apart into what the trip touches and the others (`rest_pre_…`), the
  trip is run, and what it leaves is put together to `rest` at `k + 1` (`rest_post_…`, `step_…`).
-/
module

public import proofs.«01_k».proof.Proof.Trip

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Loop

variable (c : Dev nD) (XA : Buf (Elt F) (xM.view.loc (c : Thread nD τ)))
  (arg1 : Memref sig .tc .vmem S192x256 .bf16) (harg1 : arg1.IsWhole) (arg2 : Memref sig .tc .vmem S1x256 .f32) (harg2 : arg2.IsWhole)
  (arg3 : Memref sig .tc .vmem S256x256 .bf16) (harg3 : arg3.IsWhole) (arg4 : Memref sig .tc .vmem S1x256 .f32) (harg4 : arg4.IsWhole)
  (arg5 : Memref sig .tc .vmem S256x256 .bf16) (harg5 : arg5.IsWhole) (arg6 : Memref sig .tc .vmem S1x256 .f32) (harg6 : arg6.IsWhole)
  (arg7 : Memref sig .tc .vmem S256x192 .bf16) (harg7 : arg7.IsWhole) (arg8 : Memref sig .tc .vmem S1x192 .f32) (harg8 : arg8.IsWhole)
  (v9 v14 : BitVec 32)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))
  (g5 : Buf (Elt F) (arg5.view.loc (c : Thread nD τ))) (g6 : Buf (Elt F) (arg6.view.loc (c : Thread nD τ)))
  (g7 : Buf (Elt F) (arg7.view.loc (c : Thread nD τ))) (g8 : Buf (Elt F) (arg8.view.loc (c : Thread nD τ)))

/-- What the two rings and the two arrays hold before trip `k`: the blocks of `x` at home, the three read slots of this trip
    and the next two each on its way with its block (or free, past the last block), the fourth read slot free; the blocks of
    the result still to be computed, those already there, this trip's write slot free and the other on its way with the block
    of the trip before. -/
def rest (k : ℕ) : sProp 𝕄 := iprop(
  bigSep (Ring.homeSet 3 k) (xP c XA)
  ∗ Ring.roleAt (rfree c (Ring.sl 4 k)) (rinfl c XA (Ring.sl 4 k)) k
  ∗ Ring.roleAt (rfree c (Ring.sl 4 (k + 1))) (rinfl c XA (Ring.sl 4 (k + 1))) (k + 1)
  ∗ Ring.roleAt (rfree c (Ring.sl 4 (k + 2))) (rinfl c XA (Ring.sl 4 (k + 2))) (k + 2)
  ∗ rfree c (Ring.sl 4 (k + 3))
  ∗ bigSep (Ring.aheadSet k) (oany c)
  ∗ bigSep (Ring.behindSet 1 k) (odone c (outVal c XA arg1 arg2 arg3 arg4 arg5 arg6 arg7 arg8 g1 g2 g3 g4 g5 g6 g7 g8))
  ∗ wfree c (Ring.sl 2 k)
  ∗ Ring.roleBAt 1 (wfree c (Ring.sl 2 (k + 1))) (winfl c (outVal c XA arg1 arg2 arg3 arg4 arg5 arg6 arg7 arg8 g1 g2 g3 g4 g5 g6 g7 g8) (Ring.sl 2 (k + 1))) k)

/-- The loop's invariant: the carried words of trip `k`, the staged weights and biases, the waits made so far, the rest. -/
def invAt (k : ℕ) (acc : BitVec 32 × BitVec 32 × BitVec 32 × BitVec 32 × BitVec 32) : sProp 𝕄 :=
  iprop(⌜acc = words k⌝ ∗ wins c arg1 arg2 arg3 arg4 arg5 arg6 arg7 arg8 g1 g2 g3 g4 g5 g6 g7 g8 ∗ (∃ W, owes (c : Thread nD τ) 0 W) ∗ rest c XA arg1 arg2 arg3 arg4 arg5 arg6 arg7 arg8 g1 g2 g3 g4 g5 g6 g7 g8 k)

/-- One trip at the words it is given. -/
abbrev tripA (k : Trip) (acc : BitVec 32 × BitVec 32 × BitVec 32 × BitVec 32 × BitVec 32) :
    Prog (TpuEff nD τ sig (Elt F) Λ₀ .tc) (BitVec 32 × BitVec 32 × BitVec 32 × BitVec 32 × BitVec 32) :=
  k0_t1_body (F := F) xM (Memref.isWhole_whole _) arg1 harg1 arg2 harg2 arg3 harg3 arg4 harg4 arg5 harg5 arg6 harg6 arg7 harg7 arg8 harg8
    oM (Memref.isWhole_whole _) rM (Memref.isWhole_whole _) cc0_scoped1 wM (Memref.isWhole_whole _) cc0_scoped3 v9 v14 k acc

/-- Before the first trip: what it touches beside the others. -/
theorem rest_pre_first (k : Trip) (h3 : k.val + 3 < 16) (h1 : ¬1 ≤ k.val) :
    rest c XA arg1 arg2 arg3 arg4 arg5 arg6 arg7 arg8 g1 g2 g3 g4 g5 g6 g7 g8 k.val = iprop((xP c XA (Ring.bk 16 (k.val + 3)) ∗ bigSep ((Ring.homeSet 3 k.val).erase (Ring.bk 16 (k.val + 3))) (xP c XA))
        ∗ rinfl c XA (Ring.sl 4 k.val) (Ring.bk 16 k.val)
        ∗ Ring.roleAt (rfree c (Ring.sl 4 (k.val + 1))) (rinfl c XA (Ring.sl 4 (k.val + 1))) (k.val + 1)
        ∗ Ring.roleAt (rfree c (Ring.sl 4 (k.val + 2))) (rinfl c XA (Ring.sl 4 (k.val + 2))) (k.val + 2)
        ∗ rfree c (Ring.sl 4 (k.val + 3))
        ∗ (oany c (Ring.bk 16 k.val) ∗ bigSep (Ring.aheadSet (k.val + 1)) (oany c))
        ∗ emp
        ∗ wfree c (Ring.sl 2 k.val)
        ∗ wfree c (Ring.sl 2 (k.val + 1))) := by
  have hk := trip_lt k
  unfold rest
  have e : bigSep (Ring.homeSet 3 k.val) (xP c XA) = iprop(xP c XA (Ring.bk 16 (k.val + 3)) ∗ bigSep ((Ring.homeSet 3 k.val).erase (Ring.bk 16 (k.val + 3))) (xP c XA)) := by
    conv_lhs => rw [Ring.homeSet_out 3 k.val h3, bigSep_insert (Ring.bkL_not_mem_erase 3 k.val)]
    rfl
  rw [e]
  rw [Ring.roleAt_of_lt _ _ k.val hk, Ring.aheadSet_open k.val hk, bigSep_insert (Ring.bk_not_mem_aheadSet_succ k.val hk)]
  rw [Ring.roleBAt_of_lt 1 _ _ k.val (by omega), Ring.behindSet_boot 1 k.val (by omega), bigSep_empty]
  rfl

/-- After the first trip: what it leaves beside the others. -/
theorem rest_post_first (k : Trip) (h3 : k.val + 3 < 16) (h1 : ¬1 ≤ k.val) :
    rest c XA arg1 arg2 arg3 arg4 arg5 arg6 arg7 arg8 g1 g2 g3 g4 g5 g6 g7 g8 (k.val + 1) = iprop((xP c XA (Ring.bk 16 k.val) ∗ bigSep ((Ring.homeSet 3 k.val).erase (Ring.bk 16 (k.val + 3))) (xP c XA))
        ∗ Ring.roleAt (rfree c (Ring.sl 4 (k.val + 1))) (rinfl c XA (Ring.sl 4 (k.val + 1))) (k.val + 1)
        ∗ Ring.roleAt (rfree c (Ring.sl 4 (k.val + 2))) (rinfl c XA (Ring.sl 4 (k.val + 2))) (k.val + 2)
        ∗ rinfl c XA (Ring.sl 4 (k.val + 3)) (Ring.bk 16 (k.val + 3))
        ∗ rfree c (Ring.sl 4 k.val)
        ∗ bigSep (Ring.aheadSet (k.val + 1)) (oany c)
        ∗ emp
        ∗ wfree c (Ring.sl 2 (k.val + 1))
        ∗ winfl c (outVal c XA arg1 arg2 arg3 arg4 arg5 arg6 arg7 arg8 g1 g2 g3 g4 g5 g6 g7 g8) (Ring.sl 2 k.val) (Ring.bk 16 k.val)) := by
  have hk := trip_lt k
  unfold rest
  rw [Ring.homeSet_succ 3 k.val h3, bigSep_insert (Ring.bk_not_mem_erase 3 k.val hk (by decide))]
  rw [Ring.roleAt_of_lt _ _ (k.val + 1 + 2) h3]
  rw [Ring.sl_succ_add 4 k.val 3 rfl, Ring.sl_succ_add 2 k.val 1 rfl]
  rw [Ring.roleBAt_of_le 1 _ _ (k.val + 1) (by omega), Nat.add_sub_cancel]
  rw [Ring.behindSet_boot 1 (k.val + 1) (by omega), bigSep_empty]
  rfl

/-- The invariant over the first trip. -/
theorem step_first (k : Trip) (h3 : k.val + 3 < 16) (h1 : ¬1 ≤ k.val) (acc) :
    invAt c XA arg1 arg2 arg3 arg4 arg5 arg6 arg7 arg8 g1 g2 g3 g4 g5 g6 g7 g8 k.val acc
      ⊢ wp frame (wpE (defs₀ (F := F)) 𝒱₀ (c : Thread nD τ) none) Set.univ
          (tripA arg1 harg1 arg2 harg2 arg3 harg3 arg4 harg4 arg5 harg5 arg6 harg6 arg7 harg7 arg8 harg8 v9 v14 k acc)
          (invAt c XA arg1 arg2 arg3 arg4 arg5 arg6 arg7 arg8 g1 g2 g3 g4 g5 g6 g7 g8 (k.val + 1)) := by
  unfold invAt
  rw [rest_pre_first _ _ _ _ _ _ _ _ _ _ _ _ _ _ _ _ _ _ k h3 h1, rest_post_first _ _ _ _ _ _ _ _ _ _ _ _ _ _ _ _ _ _ k h3 h1]
  iintro ⟨%hacc, Hwin, HW, ⟨Hx, HX⟩, HF, R1, R2, Hr, ⟨Ho, HA⟩, -, Hw, HG⟩
  subst hacc
  iapply (trip_first c XA arg1 harg1 arg2 harg2 arg3 harg3 arg4 harg4 arg5 harg5 arg6 harg6 arg7 harg7 arg8 harg8 v9 v14 g1 g2 g3 g4 g5 g6 g7 g8 k h3 h1 _)
  isplitl [Hwin]; · iexact Hwin
  isplitl [HW]; · iexact HW
  isplitl [Hx]; · iexact Hx
  isplitl [Hr]; · iexact Hr
  isplitl [HF]; · iexact HF
  isplitl [Ho]; · iexact Ho
  isplitl [Hw]; · iexact Hw
  iintro ⟨Hwin, HW, HF', Hx, Hr, HG'⟩
  isplitr; · ipureintro; rfl
  isplitl [Hwin]; · iexact Hwin
  isplitl [HW]; · iexact HW
  isplitl [Hx HX]
  · isplitl [Hx]; · iexact Hx
    iexact HX
  isplitl [R1]; · iexact R1
  isplitl [R2]; · iexact R2
  isplitl [HF']; · iexact HF'
  isplitl [Hr]; · iexact Hr
  isplitl [HA]; · iexact HA
  isplitr; · iempintro
  isplitl [HG]; · iexact HG
  iexact HG'

/-- Before a middle trip: what it touches beside the others. -/
theorem rest_pre_mid (k : Trip) (h3 : k.val + 3 < 16) (h1 : 1 ≤ k.val) :
    rest c XA arg1 arg2 arg3 arg4 arg5 arg6 arg7 arg8 g1 g2 g3 g4 g5 g6 g7 g8 k.val = iprop((xP c XA (Ring.bk 16 (k.val + 3)) ∗ bigSep ((Ring.homeSet 3 k.val).erase (Ring.bk 16 (k.val + 3))) (xP c XA))
        ∗ rinfl c XA (Ring.sl 4 k.val) (Ring.bk 16 k.val)
        ∗ Ring.roleAt (rfree c (Ring.sl 4 (k.val + 1))) (rinfl c XA (Ring.sl 4 (k.val + 1))) (k.val + 1)
        ∗ Ring.roleAt (rfree c (Ring.sl 4 (k.val + 2))) (rinfl c XA (Ring.sl 4 (k.val + 2))) (k.val + 2)
        ∗ rfree c (Ring.sl 4 (k.val + 3))
        ∗ (oany c (Ring.bk 16 k.val) ∗ bigSep (Ring.aheadSet (k.val + 1)) (oany c))
        ∗ bigSep (Ring.behindSet 1 k.val) (odone c (outVal c XA arg1 arg2 arg3 arg4 arg5 arg6 arg7 arg8 g1 g2 g3 g4 g5 g6 g7 g8))
        ∗ wfree c (Ring.sl 2 k.val)
        ∗ winfl c (outVal c XA arg1 arg2 arg3 arg4 arg5 arg6 arg7 arg8 g1 g2 g3 g4 g5 g6 g7 g8) (Ring.sl 2 (k.val + 1)) (Ring.bk 16 (k.val - 1))) := by
  have hk := trip_lt k
  unfold rest
  have e : bigSep (Ring.homeSet 3 k.val) (xP c XA) = iprop(xP c XA (Ring.bk 16 (k.val + 3)) ∗ bigSep ((Ring.homeSet 3 k.val).erase (Ring.bk 16 (k.val + 3))) (xP c XA)) := by
    conv_lhs => rw [Ring.homeSet_out 3 k.val h3, bigSep_insert (Ring.bkL_not_mem_erase 3 k.val)]
    rfl
  rw [e]
  rw [Ring.roleAt_of_lt _ _ k.val hk, Ring.aheadSet_open k.val hk, bigSep_insert (Ring.bk_not_mem_aheadSet_succ k.val hk)]
  rw [Ring.roleBAt_of_le 1 _ _ k.val h1]
  rfl

/-- After a middle trip: what it leaves beside the others. -/
theorem rest_post_mid (k : Trip) (h3 : k.val + 3 < 16) (h1 : 1 ≤ k.val) :
    rest c XA arg1 arg2 arg3 arg4 arg5 arg6 arg7 arg8 g1 g2 g3 g4 g5 g6 g7 g8 (k.val + 1) = iprop((xP c XA (Ring.bk 16 k.val) ∗ bigSep ((Ring.homeSet 3 k.val).erase (Ring.bk 16 (k.val + 3))) (xP c XA))
        ∗ Ring.roleAt (rfree c (Ring.sl 4 (k.val + 1))) (rinfl c XA (Ring.sl 4 (k.val + 1))) (k.val + 1)
        ∗ Ring.roleAt (rfree c (Ring.sl 4 (k.val + 2))) (rinfl c XA (Ring.sl 4 (k.val + 2))) (k.val + 2)
        ∗ rinfl c XA (Ring.sl 4 (k.val + 3)) (Ring.bk 16 (k.val + 3))
        ∗ rfree c (Ring.sl 4 k.val)
        ∗ bigSep (Ring.aheadSet (k.val + 1)) (oany c)
        ∗ (odone c (outVal c XA arg1 arg2 arg3 arg4 arg5 arg6 arg7 arg8 g1 g2 g3 g4 g5 g6 g7 g8) (Ring.bk 16 (k.val - 1)) ∗ bigSep (Ring.behindSet 1 k.val) (odone c (outVal c XA arg1 arg2 arg3 arg4 arg5 arg6 arg7 arg8 g1 g2 g3 g4 g5 g6 g7 g8)))
        ∗ wfree c (Ring.sl 2 (k.val + 1))
        ∗ winfl c (outVal c XA arg1 arg2 arg3 arg4 arg5 arg6 arg7 arg8 g1 g2 g3 g4 g5 g6 g7 g8) (Ring.sl 2 k.val) (Ring.bk 16 k.val)) := by
  have hk := trip_lt k
  unfold rest
  rw [Ring.homeSet_succ 3 k.val h3, bigSep_insert (Ring.bk_not_mem_erase 3 k.val hk (by decide))]
  rw [Ring.roleAt_of_lt _ _ (k.val + 1 + 2) h3]
  rw [Ring.sl_succ_add 4 k.val 3 rfl, Ring.sl_succ_add 2 k.val 1 rfl]
  rw [Ring.roleBAt_of_le 1 _ _ (k.val + 1) (by omega), Nat.add_sub_cancel]
  rw [Ring.behindSet_close 1 k.val h1 hk, bigSep_insert (Ring.bk_not_mem_behindSet 1 k.val h1 hk)]
  rfl

/-- The invariant over a middle trip. -/
theorem step_mid (k : Trip) (h3 : k.val + 3 < 16) (h1 : 1 ≤ k.val) (acc) :
    invAt c XA arg1 arg2 arg3 arg4 arg5 arg6 arg7 arg8 g1 g2 g3 g4 g5 g6 g7 g8 k.val acc
      ⊢ wp frame (wpE (defs₀ (F := F)) 𝒱₀ (c : Thread nD τ) none) Set.univ
          (tripA arg1 harg1 arg2 harg2 arg3 harg3 arg4 harg4 arg5 harg5 arg6 harg6 arg7 harg7 arg8 harg8 v9 v14 k acc)
          (invAt c XA arg1 arg2 arg3 arg4 arg5 arg6 arg7 arg8 g1 g2 g3 g4 g5 g6 g7 g8 (k.val + 1)) := by
  unfold invAt
  rw [rest_pre_mid _ _ _ _ _ _ _ _ _ _ _ _ _ _ _ _ _ _ k h3 h1, rest_post_mid _ _ _ _ _ _ _ _ _ _ _ _ _ _ _ _ _ _ k h3 h1]
  iintro ⟨%hacc, Hwin, HW, ⟨Hx, HX⟩, HF, R1, R2, Hr, ⟨Ho, HA⟩, HB, Hw, HG⟩
  subst hacc
  iapply (trip_mid c XA arg1 harg1 arg2 harg2 arg3 harg3 arg4 harg4 arg5 harg5 arg6 harg6 arg7 harg7 arg8 harg8 v9 v14 g1 g2 g3 g4 g5 g6 g7 g8 k h3 h1 _)
  isplitl [Hwin]; · iexact Hwin
  isplitl [HW]; · iexact HW
  isplitl [Hx]; · iexact Hx
  isplitl [Hr]; · iexact Hr
  isplitl [HF]; · iexact HF
  isplitl [Ho]; · iexact Ho
  isplitl [Hw]; · iexact Hw
  isplitl [HG]; · iexact HG
  iintro ⟨Hwin, HW, HF', Hx, Hr, HG', Hw, Hd⟩
  isplitr; · ipureintro; rfl
  isplitl [Hwin]; · iexact Hwin
  isplitl [HW]; · iexact HW
  isplitl [Hx HX]
  · isplitl [Hx]; · iexact Hx
    iexact HX
  isplitl [R1]; · iexact R1
  isplitl [R2]; · iexact R2
  isplitl [HF']; · iexact HF'
  isplitl [Hr]; · iexact Hr
  isplitl [HA]; · iexact HA
  isplitl [Hd HB]
  · isplitl [Hd]; · iexact Hd
    iexact HB
  isplitl [Hw]; · iexact Hw
  iexact HG'

/-- Before one of the last three trips: what it touches beside the others. -/
theorem rest_pre_last (k : Trip) (h3 : ¬k.val + 3 < 16) (h1 : 1 ≤ k.val) :
    rest c XA arg1 arg2 arg3 arg4 arg5 arg6 arg7 arg8 g1 g2 g3 g4 g5 g6 g7 g8 k.val = iprop(bigSep (Ring.homeSet 3 k.val) (xP c XA)
        ∗ rinfl c XA (Ring.sl 4 k.val) (Ring.bk 16 k.val)
        ∗ Ring.roleAt (rfree c (Ring.sl 4 (k.val + 1))) (rinfl c XA (Ring.sl 4 (k.val + 1))) (k.val + 1)
        ∗ Ring.roleAt (rfree c (Ring.sl 4 (k.val + 2))) (rinfl c XA (Ring.sl 4 (k.val + 2))) (k.val + 2)
        ∗ rfree c (Ring.sl 4 (k.val + 3))
        ∗ (oany c (Ring.bk 16 k.val) ∗ bigSep (Ring.aheadSet (k.val + 1)) (oany c))
        ∗ bigSep (Ring.behindSet 1 k.val) (odone c (outVal c XA arg1 arg2 arg3 arg4 arg5 arg6 arg7 arg8 g1 g2 g3 g4 g5 g6 g7 g8))
        ∗ wfree c (Ring.sl 2 k.val)
        ∗ winfl c (outVal c XA arg1 arg2 arg3 arg4 arg5 arg6 arg7 arg8 g1 g2 g3 g4 g5 g6 g7 g8) (Ring.sl 2 (k.val + 1)) (Ring.bk 16 (k.val - 1))) := by
  have hk := trip_lt k
  unfold rest
  rw [Ring.roleAt_of_lt _ _ k.val hk, Ring.aheadSet_open k.val hk, bigSep_insert (Ring.bk_not_mem_aheadSet_succ k.val hk)]
  rw [Ring.roleBAt_of_le 1 _ _ k.val h1]
  rfl

/-- After one of the last three trips: what it leaves beside the others. -/
theorem rest_post_last (k : Trip) (h3 : ¬k.val + 3 < 16) (h1 : 1 ≤ k.val) :
    rest c XA arg1 arg2 arg3 arg4 arg5 arg6 arg7 arg8 g1 g2 g3 g4 g5 g6 g7 g8 (k.val + 1) = iprop((xP c XA (Ring.bk 16 k.val) ∗ bigSep (Ring.homeSet 3 k.val) (xP c XA))
        ∗ Ring.roleAt (rfree c (Ring.sl 4 (k.val + 1))) (rinfl c XA (Ring.sl 4 (k.val + 1))) (k.val + 1)
        ∗ Ring.roleAt (rfree c (Ring.sl 4 (k.val + 2))) (rinfl c XA (Ring.sl 4 (k.val + 2))) (k.val + 2)
        ∗ rfree c (Ring.sl 4 (k.val + 3))
        ∗ rfree c (Ring.sl 4 k.val)
        ∗ bigSep (Ring.aheadSet (k.val + 1)) (oany c)
        ∗ (odone c (outVal c XA arg1 arg2 arg3 arg4 arg5 arg6 arg7 arg8 g1 g2 g3 g4 g5 g6 g7 g8) (Ring.bk 16 (k.val - 1)) ∗ bigSep (Ring.behindSet 1 k.val) (odone c (outVal c XA arg1 arg2 arg3 arg4 arg5 arg6 arg7 arg8 g1 g2 g3 g4 g5 g6 g7 g8)))
        ∗ wfree c (Ring.sl 2 (k.val + 1))
        ∗ winfl c (outVal c XA arg1 arg2 arg3 arg4 arg5 arg6 arg7 arg8 g1 g2 g3 g4 g5 g6 g7 g8) (Ring.sl 2 k.val) (Ring.bk 16 k.val)) := by
  have hk := trip_lt k
  unfold rest
  rw [Ring.homeSet_succ_tail 3 k.val (by omega) hk, bigSep_insert (Ring.bk_not_mem_homeSet 3 k.val hk (by decide))]
  rw [Ring.roleAt_of_le _ _ (k.val + 1 + 2) (by omega)]
  rw [Ring.sl_succ_add 4 k.val 3 rfl, Ring.sl_succ_add 2 k.val 1 rfl]
  rw [Ring.roleBAt_of_le 1 _ _ (k.val + 1) (by omega), Nat.add_sub_cancel]
  rw [Ring.behindSet_close 1 k.val h1 hk, bigSep_insert (Ring.bk_not_mem_behindSet 1 k.val h1 hk)]
  rfl

/-- The invariant over one of the last three trips. -/
theorem step_last (k : Trip) (h3 : ¬k.val + 3 < 16) (h1 : 1 ≤ k.val) (acc) :
    invAt c XA arg1 arg2 arg3 arg4 arg5 arg6 arg7 arg8 g1 g2 g3 g4 g5 g6 g7 g8 k.val acc
      ⊢ wp frame (wpE (defs₀ (F := F)) 𝒱₀ (c : Thread nD τ) none) Set.univ
          (tripA arg1 harg1 arg2 harg2 arg3 harg3 arg4 harg4 arg5 harg5 arg6 harg6 arg7 harg7 arg8 harg8 v9 v14 k acc)
          (invAt c XA arg1 arg2 arg3 arg4 arg5 arg6 arg7 arg8 g1 g2 g3 g4 g5 g6 g7 g8 (k.val + 1)) := by
  unfold invAt
  rw [rest_pre_last _ _ _ _ _ _ _ _ _ _ _ _ _ _ _ _ _ _ k h3 h1, rest_post_last _ _ _ _ _ _ _ _ _ _ _ _ _ _ _ _ _ _ k h3 h1]
  iintro ⟨%hacc, Hwin, HW, HX, HF, R1, R2, Hr, ⟨Ho, HA⟩, HB, Hw, HG⟩
  subst hacc
  iapply (trip_last c XA arg1 harg1 arg2 harg2 arg3 harg3 arg4 harg4 arg5 harg5 arg6 harg6 arg7 harg7 arg8 harg8 v9 v14 g1 g2 g3 g4 g5 g6 g7 g8 k h3 h1 _)
  isplitl [Hwin]; · iexact Hwin
  isplitl [HW]; · iexact HW
  isplitl [HF]; · iexact HF
  isplitl [Ho]; · iexact Ho
  isplitl [Hw]; · iexact Hw
  isplitl [HG]; · iexact HG
  iintro ⟨Hwin, HW, Hx, Hr', HG', Hw, Hd⟩
  isplitr; · ipureintro; rfl
  isplitl [Hwin]; · iexact Hwin
  isplitl [HW]; · iexact HW
  isplitl [Hx HX]
  · isplitl [Hx]; · iexact Hx
    iexact HX
  isplitl [R1]; · iexact R1
  isplitl [R2]; · iexact R2
  isplitl [Hr]; · iexact Hr
  isplitl [Hr']; · iexact Hr'
  isplitl [HA]; · iexact HA
  isplitl [Hd HB]
  · isplitl [Hd]; · iexact Hd
    iexact HB
  isplitl [Hw]; · iexact Hw
  iexact HG'

/-- Every trip takes the invariant at its number to the invariant at the next. -/
theorem step_all (k : Trip) (acc) :
    invAt c XA arg1 arg2 arg3 arg4 arg5 arg6 arg7 arg8 g1 g2 g3 g4 g5 g6 g7 g8 k.val acc
      ⊢ wp frame (wpE (defs₀ (F := F)) 𝒱₀ (c : Thread nD τ) none) Set.univ
          (tripA arg1 harg1 arg2 harg2 arg3 harg3 arg4 harg4 arg5 harg5 arg6 harg6 arg7 harg7 arg8 harg8 v9 v14 k acc)
          (invAt c XA arg1 arg2 arg3 arg4 arg5 arg6 arg7 arg8 g1 g2 g3 g4 g5 g6 g7 g8 (k.val + 1)) := by
  by_cases h3 : k.val + 3 < 16
  · by_cases h1 : 1 ≤ k.val
    · exact step_mid _ _ _ _ _ _ _ _ _ _ _ _ _ _ _ _ _ _ _ _ _ _ _ _ _ _ _ _ k h3 h1 acc
    · exact step_first _ _ _ _ _ _ _ _ _ _ _ _ _ _ _ _ _ _ _ _ _ _ _ _ _ _ _ _ k h3 h1 acc
  · exact step_last _ _ _ _ _ _ _ _ _ _ _ _ _ _ _ _ _ _ _ _ _ _ _ _ _ _ _ _ k h3 (by omega) acc

end Loop
end Cert.Proof.Mlp
end
-- ==== Proof.Body.lean ====
/-
  The kernel's body: three reads issued, the loop of sixteen trips, and the wait for the last trip's copy. Given `x`, the
  result at whatever it holds, and both rings free, it ends with both rings free and every block of the result holding
  what the four layers make of the same block of `x` (`bodyRun`).
-/
module

public import proofs.«01_k».proof.Proof.Loop

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Body

variable (c : Dev nD) (XA : Buf (Elt F) (xM.view.loc (c : Thread nD τ)))
  (arg1 : Memref sig .tc .vmem S192x256 .bf16) (harg1 : arg1.IsWhole) (arg2 : Memref sig .tc .vmem S1x256 .f32) (harg2 : arg2.IsWhole)
  (arg3 : Memref sig .tc .vmem S256x256 .bf16) (harg3 : arg3.IsWhole) (arg4 : Memref sig .tc .vmem S1x256 .f32) (harg4 : arg4.IsWhole)
  (arg5 : Memref sig .tc .vmem S256x256 .bf16) (harg5 : arg5.IsWhole) (arg6 : Memref sig .tc .vmem S1x256 .f32) (harg6 : arg6.IsWhole)
  (arg7 : Memref sig .tc .vmem S256x192 .bf16) (harg7 : arg7.IsWhole) (arg8 : Memref sig .tc .vmem S1x192 .f32) (harg8 : arg8.IsWhole)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))
  (g5 : Buf (Elt F) (arg5.view.loc (c : Thread nD τ))) (g6 : Buf (Elt F) (arg6.view.loc (c : Thread nD τ)))
  (g7 : Buf (Elt F) (arg7.view.loc (c : Thread nD τ))) (g8 : Buf (Elt F) (arg8.view.loc (c : Thread nD τ)))

/-- The body on the given staging memrefs, `x`, the result, the two rings and their cells its own. -/
abbrev bodyG : Prog (TpuEff nD τ sig (Elt F) Λ₀ .tc) PUnit :=
  cc0__body (F := F) xM (Memref.isWhole_whole _) arg1 harg1 arg2 harg2 arg3 harg3 arg4 harg4 arg5 harg5 arg6 harg6 arg7 harg7 arg8 harg8
    oM (Memref.isWhole_whole _) rM (Memref.isWhole_whole _) cc0_scoped1 wM (Memref.isWhole_whole _) cc0_scoped3

/-- The prologue issues blocks 0, 1 and 2 of `x`. -/
theorem cond1_pos : k0_cond1 = 1#1 := by decide +kernel
theorem cond2_pos : k0_cond2 = 1#1 := by decide +kernel

/-- Blocks 0, 1 and 2 of `x` beside the others. -/
theorem x_open : bigSep Finset.univ (xP c XA) = iprop(xP c XA 0 ∗ xP c XA 1 ∗ xP c XA 2 ∗ bigSep (Ring.homeSet 3 0) (xP c XA)) := by
  have e : (Finset.univ : Finset (Fin 16)) = insert 0 (insert 1 (insert 2 (Ring.homeSet 3 0))) := by decide +kernel
  have h0 : (0 : Fin 16) ∉ insert 1 (insert 2 (Ring.homeSet (NB := 16) 3 0)) := by decide +kernel
  have h1 : (1 : Fin 16) ∉ insert 2 (Ring.homeSet (NB := 16) 3 0) := by decide +kernel
  have h2 : (2 : Fin 16) ∉ Ring.homeSet (NB := 16) 3 0 := by decide +kernel
  rw [e, bigSep_insert h0, bigSep_insert h1, bigSep_insert h2]; rfl

/-- The blocks of the result with the last trip's beside the others. -/
theorem o_close (P : Fin 16 → sProp 𝕄) : bigSep Finset.univ P = iprop(P 15 ∗ bigSep (Ring.behindSet 1 16) P) := by
  have e : (Finset.univ : Finset (Fin 16)) = insert 15 (Ring.behindSet 1 16) := by decide +kernel
  have h : (15 : Fin 16) ∉ Ring.behindSet (NB := 16) 1 16 := by decide +kernel
  rw [e, bigSep_insert h]; rfl

/-- A separating product over four slots, and over two, written out. -/
theorem fin4 (P : Fin 4 → sProp 𝕄) : bigSep Finset.univ P = iprop(P 0 ∗ P 1 ∗ P 2 ∗ P 3) := by
  have e : (Finset.univ : Finset (Fin 4)) = insert 0 (insert 1 (insert 2 {3})) := by decide
  rw [e, bigSep_insert (by decide), bigSep_insert (by decide), bigSep_insert (by decide), bigSep_singleton]; rfl
theorem fin2 (P : Fin 2 → sProp 𝕄) : bigSep Finset.univ P = iprop(P 0 ∗ P 1) := Ring.bigSep_fin2 P

/-- Before the first trip: three reads on their way, everything else where the launch put it. -/
theorem rest_zero : rest c XA arg1 arg2 arg3 arg4 arg5 arg6 arg7 arg8 g1 g2 g3 g4 g5 g6 g7 g8 0 = iprop(bigSep (Ring.homeSet 3 0) (xP c XA)
    ∗ rinfl c XA 0 0 ∗ rinfl c XA 1 1 ∗ rinfl c XA 2 2 ∗ rfree c 3 ∗ bigSep Finset.univ (oany c) ∗ emp ∗ wfree c 0 ∗ wfree c 1) := by
  unfold rest
  rw [Ring.aheadSet_zero, Ring.behindSet_boot 1 0 (by omega), bigSep_empty]
  rfl

/-- After the last trip: the reads all done, the last block of the result on its way. -/
theorem rest_end : rest c XA arg1 arg2 arg3 arg4 arg5 arg6 arg7 arg8 g1 g2 g3 g4 g5 g6 g7 g8 16 = iprop(bigSep Finset.univ (xP c XA)
    ∗ rfree c 0 ∗ rfree c 1 ∗ rfree c 2 ∗ rfree c 3 ∗ emp
    ∗ bigSep (Ring.behindSet 1 16) (odone c (outVal c XA arg1 arg2 arg3 arg4 arg5 arg6 arg7 arg8 g1 g2 g3 g4 g5 g6 g7 g8)) ∗ wfree c 0 ∗ winfl c (outVal c XA arg1 arg2 arg3 arg4 arg5 arg6 arg7 arg8 g1 g2 g3 g4 g5 g6 g7 g8) 1 15) := by
  unfold rest
  rw [Ring.homeSet_last 3 16 le_rfl, Ring.aheadSet_end 16 le_rfl, bigSep_empty]
  rfl

/-- What the body is handed and hands back, but the result's blocks. -/
abbrev around : sProp 𝕄 := iprop(wins c arg1 arg2 arg3 arg4 arg5 arg6 arg7 arg8 g1 g2 g3 g4 g5 g6 g7 g8 ∗ (∃ W, owes (c : Thread nD τ) 0 W) ∗ bigSep Finset.univ (xP c XA)
  ∗ bigSep Finset.univ (rfree (F := F) c) ∗ bigSep Finset.univ (wfree (F := F) c))

/-- The body computes every block of the result. -/
theorem bodyRun (Q : PUnit → sProp 𝕄) :
    iprop(around c XA arg1 arg2 arg3 arg4 arg5 arg6 arg7 arg8 g1 g2 g3 g4 g5 g6 g7 g8 ∗ bigSep Finset.univ (oany (F := F) c)
        ∗ (iprop(around c XA arg1 arg2 arg3 arg4 arg5 arg6 arg7 arg8 g1 g2 g3 g4 g5 g6 g7 g8 ∗ bigSep Finset.univ (odone c (outVal c XA arg1 arg2 arg3 arg4 arg5 arg6 arg7 arg8 g1 g2 g3 g4 g5 g6 g7 g8))) -∗ Q ⟨⟩))
      ⊢ wp frame (wpE (defs₀ (F := F)) 𝒱₀ (c : Thread nD τ) none) Set.univ (bodyG arg1 harg1 arg2 harg2 arg3 harg3 arg4 harg4 arg5 harg5 arg6 harg6 arg7 harg7 arg8 harg8) Q := by
  unfold around
  rw [x_open, fin4, fin2]
  conv_lhs => enter [1, 2, 2, 2, 1]; unfold rfree
  iintro ⟨⟨Hwin, ⟨%W, HW⟩, ⟨Hx0, Hx1, Hx2, HX⟩, ⟨⟨Hc0, ⟨%f0, Hs0⟩⟩, ⟨Hc1, ⟨%f1, Hs1⟩⟩, ⟨Hc2, ⟨%f2, Hs2⟩⟩, Hr3⟩, Hw0, Hw1⟩, HO, Hk⟩
  have d1 := cond1_pos
  have d2 := cond2_pos
  dsimp only [bodyG]
  sl_unfold [cc0__body]
  sl_exec
  sl_for (invAt c XA arg1 arg2 arg3 arg4 arg5 arg6 arg7 arg8 g1 g2 g3 g4 g5 g6 g7 g8) $$ [Hwin HW HX Hc0 Hc1 Hc2 Hr3 HO Hw0 Hw1]
  case region =>
    intro k acc
    exact step_all c XA arg1 harg1 arg2 harg2 arg3 harg3 arg4 harg4 arg5 harg5 arg6 harg6 arg7 harg7 arg8 harg8 1#32 2#32 g1 g2 g3 g4 g5 g6 g7 g8 k acc
  · unfold invAt
    rw [rest_zero]
    isplitr; · ipureintro; decide +kernel
    isplitl [Hwin]; · iexact Hwin
    isplitl [HW]; · iexists W; iexact HW
    isplitl [HX]; · iexact HX
    isplitl [Hc0]
    · unfold rinfl; iexists _
      isplitr
      rotate_left
      · iexact Hc0
      ipureintro
      exact read_writes_whole (F := F) (rslot 0).view f0 _
    isplitl [Hc1]
    · unfold rinfl; iexists _
      isplitr
      rotate_left
      · iexact Hc1
      ipureintro
      exact read_writes_whole (F := F) (rslot 1).view f1 _
    isplitl [Hc2]
    · unfold rinfl; iexists _
      isplitr
      rotate_left
      · iexact Hc2
      ipureintro
      exact read_writes_whole (F := F) (rslot 2).view f2 _
    isplitl [Hr3]; · unfold rfree; iexact Hr3
    isplitl [HO]; · iexact HO
    isplitr; · iempintro
    isplitl [Hw0]; · iexact Hw0
    iexact Hw1
  have c4 := chk4_ok
  have c5 := chk5_ok
  rw [show Scf.trips k0_t1_loop.lb k0_t1_loop.ub k0_t1_loop.st = 16 from trips_eq]
  unfold invAt
  rw [rest_end]
  unfold winfl
  iintro %acc ⟨%hacc, Hwin, ⟨%W', HW⟩, HX, Hr0, Hr1, Hr2, Hr3, -, HB, Hw0, ⟨%fw, %g, %hg, HG⟩⟩
  subst hacc
  dsimp only [words]
  sl_exec
  sl_step
  iapply Hk
  irw [← x_open, o_close (odone c (outVal c XA arg1 arg2 arg3 arg4 arg5 arg6 arg7 arg8 g1 g2 g3 g4 g5 g6 g7 g8))]
  isplitl [Hwin HW HX Hr0 Hr1 Hr2 Hr3 Hw0 HG HG_src]
  · isplitl [Hwin]; · iexact Hwin
    isplitl [HW]; · iexists _; iexact HW
    isplitl [HX]; · iexact HX
    isplitl [Hr0 Hr1 Hr2 Hr3]
    · isplitl [Hr0]; · iexact Hr0
      isplitl [Hr1]; · iexact Hr1
      isplitl [Hr2]; · iexact Hr2
      iexact Hr3
    isplitl [Hw0]; · iexact Hw0
    unfold wfree
    isplitl [HG]; · iexact HG
    iexists fw; iexact HG_src
  isplitl [HG_dst]
  · unfold odone
    iexists g
    isplitr; · ipureintro; exact hg
    iexact HG_dst
  iexact HB

end Body
end Cert.Proof.Mlp
end
-- ==== Proof.Split.lean ====
/-
  Taking buffers apart into the pieces the pipelined body works on, and putting them back.

  `x` whole is its sixteen blocks. The result whole is its sixteen blocks too, whatever each holds; and once every block
  reads as a given value, the result whole holds `joined` of those values. Each of the two rings whole is its slots.
-/
module

public import proofs.«01_k».proof.Proof.Body

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- Equal assertions, one from the other. -/
theorem ent_of_eq {P Q : sProp 𝕄} (e : P = Q) : P ⊢ Q := e ▸ .rfl

/-! ## The element sets -/

/-- The elements of block `b` of a 16384 × 192 array, of slot `s` of the read ring, and of slot `s` of the write ring. -/
abbrev blkSet (b : Fin 16) : Finset S16384x192.Idx := (Rect.unit (s := S16384x192) (blkOff b) S1024x192.size (blkOff_inb b)).set
abbrev rSet (s : Fin 4) : Finset S4x1024x192.Idx := (Rect.unit (s := S4x1024x192) (rOff s) S1x1024x192.size (rOff_inb s)).set
abbrev wSet (s : Fin 2) : Finset S2x1024x192.Idx := (Rect.unit (s := S2x1024x192) (wOff s) S1x1024x192.size (wOff_inb s)).set

/-- The names' views read those elements. -/
theorem xblk_set (b : Fin 16) : (xblk b).view.set = blkSet b := View.set_slice_whole _ _
theorem oblk_set (b : Fin 16) : (oblk b).view.set = blkSet b := View.set_slice_whole _ _
theorem rslot_set (s : Fin 4) : (rslot s).view.set = rSet s := (View.set_reshape _ _).trans (View.set_slice_whole _ _)
theorem wslot_set (s : Fin 2) : (wslot s).view.set = wSet s := (View.set_reshape _ _).trans (View.set_slice_whole _ _)

/-- Blocks and slots are cut along the leading axis alone. -/
theorem blk_rest : ∀ a : Fin 2, a ≠ 0 → S1024x192.size a = S16384x192.size a := by decide
theorem r_rest : ∀ a : Fin 3, a ≠ 0 → S1x1024x192.size a = S4x1024x192.size a := by decide
theorem w_rest : ∀ a : Fin 3, a ≠ 0 → S1x1024x192.size a = S2x1024x192.size a := by decide
theorem blkOff_rest (b : Fin 16) : ∀ a : Fin 2, a ≠ 0 → blkOff b a = 0 := by intro a h; fin_cases a; exact absurd rfl h; rfl
theorem rOff_rest (s : Fin 4) : ∀ a : Fin 3, a ≠ 0 → rOff s a = 0 := by intro a h; fin_cases a; exact absurd rfl h; rfl; rfl
theorem wOff_rest (s : Fin 2) : ∀ a : Fin 3, a ≠ 0 → wOff s a = 0 := by intro a h; fin_cases a; exact absurd rfl h; rfl; rfl

/-- Two blocks share no element and the blocks together are the array; the same of the slots of either ring. -/
theorem blk_disjoint : ∀ b b' : Fin 16, b ≠ b' → Disjoint (blkSet b) (blkSet b') :=
  Ring.lead_disjoint (s := S16384x192) (0 : Fin 2) 1024 blkOff S1024x192.size blkOff_inb (fun _ => rfl) rfl
theorem blk_cover : Finset.univ.biUnion blkSet = Finset.univ :=
  Ring.lead_cover (s := S16384x192) (0 : Fin 2) 1024 blkOff S1024x192.size blkOff_inb (fun _ => rfl) blkOff_rest rfl blk_rest rfl
theorem r_disjoint : ∀ s s' : Fin 4, s ≠ s' → Disjoint (rSet s) (rSet s') :=
  Ring.lead_disjoint (s := S4x1024x192) (0 : Fin 3) 1 rOff S1x1024x192.size rOff_inb (fun s => (Nat.one_mul s.val).symm) rfl
theorem r_cover : Finset.univ.biUnion rSet = Finset.univ :=
  Ring.lead_cover (s := S4x1024x192) (0 : Fin 3) 1 rOff S1x1024x192.size rOff_inb (fun s => (Nat.one_mul s.val).symm) rOff_rest rfl r_rest rfl
theorem w_disjoint : ∀ s s' : Fin 2, s ≠ s' → Disjoint (wSet s) (wSet s') :=
  Ring.lead_disjoint (s := S2x1024x192) (0 : Fin 3) 1 wOff S1x1024x192.size wOff_inb (fun s => (Nat.one_mul s.val).symm) rfl
theorem w_cover : Finset.univ.biUnion wSet = Finset.univ :=
  Ring.lead_cover (s := S2x1024x192) (0 : Fin 3) 1 wOff S1x1024x192.size wOff_inb (fun s => (Nat.one_mul s.val).symm) wOff_rest rfl w_rest rfl

/-! ## Values block by block -/

/-- The array whose block `b` is `val b`: its row `y` is row `y % 1024` of block `y / 1024`. -/
def joined {α : Type} (val : Fin 16 → S1024x192.Idx → α) : S16384x192.Idx → α := fun y =>
  val ⟨(y 0).val / 1024, by have h : (y 0).val < 16384 := (y 0).isLt; omega⟩
    (Fin.cons ⟨(y 0).val % 1024, Nat.mod_lt _ (by decide)⟩ (Fin.cons ⟨(y 1).val, (y 1).isLt⟩ fun i => i.elim0))

/-- Row `1024 b + r` of it is row `r` of block `b`. -/
theorem joined_apply {α : Type} (val : Fin 16 → S1024x192.Idx → α) (y : S16384x192.Idx) (b : Fin 16) (x : S1024x192.Idx)
    (h0 : (y 0).val = 1024 * b.val + (x 0).val) (h1 : (y 1).val = (x 1).val) : joined val y = val b x := by
  have hx : (x 0).val < 1024 := (x 0).isLt
  unfold joined
  congr 1
  · apply Fin.ext
    show (y 0).val / 1024 = b.val
    omega
  · funext a
    apply Fin.ext
    fin_cases a
    · show (y 0).val % 1024 = (x 0).val
      omega
    · exact h1

/-- Contents of the result that read as `val b` in block `b` are `joined val` on that block's elements. -/
theorem eq_joined (c : Dev nD) (val : Fin 16 → S1024x192.Idx → Elt F .f32) (b : Fin 16)
    (g : Buf (Elt F) ((oblk b).view.loc (c : Thread nD τ))) (hg : (oblk b).view.read (Elt F) g = val b) :
    ∀ i ∈ (oblk b).view.set, g i = (joined val : S16384x192.Idx → Elt F .f32) i := by
  intro i hi
  obtain ⟨x, -, rfl⟩ := Finset.mem_map.mp hi
  refine (congrFun hg x).trans (joined_apply val _ b x ?_ ?_).symm
  · show 1024 * b.val + 1 * (x 0).val = 1024 * b.val + (x 0).val
    omega
  · show 0 + 1 * (x 1).val = (x 1).val
    omega

/-! ## Taking apart and putting back -/

/-- A separating product over two slots, and over four, written out. -/
theorem bigSep_two (Φ : Fin 2 → sProp 𝕄) : bigSep Finset.univ Φ = iprop(Φ 0 ∗ Φ 1) :=
  bigSep_univ_eq_bigSepL [(0 : Fin 2), (1 : Fin 2)] (by decide) (by decide) Φ
theorem bigSep_four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- `x` whole is its sixteen blocks. -/
theorem x_eq (c : Dev nD) (X : Buf (Elt F) ((c : Thread nD τ).loc main_arg1)) :
    (((c : Thread nD τ).loc main_arg1) ↦{fullShare} X : sProp 𝕄) = bigSep Finset.univ (xP c X) := by
  rw [Ring.pointsTo_blocks (ℓ := (c : Thread nD τ).loc main_arg1) blkSet blk_disjoint blk_cover]
  exact bigSep_congr fun b _ => by rw [← xblk_set]; rfl

/-- The result whole is its sixteen blocks. -/
theorem o_eq (c : Dev nD) (X : Buf (Elt F) ((c : Thread nD τ).loc main_v8)) :
    (((c : Thread nD τ).loc main_v8) ↦{fullShare} X : sProp 𝕄) = bigSep Finset.univ (fun b => oP c b X) := by
  rw [Ring.pointsTo_blocks (ℓ := (c : Thread nD τ).loc main_v8) blkSet blk_disjoint blk_cover]
  exact bigSep_congr fun b _ => by rw [← oblk_set]; rfl

/-- The result at anything is its blocks at anything. -/
theorem o_split (c : Dev nD) (X : Buf (Elt F) ((c : Thread nD τ).loc main_v8)) :
    (((c : Thread nD τ).loc main_v8) ↦{fullShare} X : sProp 𝕄) ⊢ bigSep Finset.univ (oany (F := F) c) := by
  rw [o_eq]
  refine bigSep_mono fun b _ => ?_
  unfold oany
  show (oP c b X : sProp 𝕄) ⊢ iprop(∃ g, oP c b g)
  iintro H; iexists X; iexact H

/-- Its blocks each at its value are the result at `joined` of the values. -/
theorem o_join (c : Dev nD) (val : Fin 16 → S1024x192.Idx → Elt F .f32) :
    bigSep Finset.univ (odone c val) ⊢ (((c : Thread nD τ).loc main_v8) ↦{fullShare} (joined val : S16384x192.Idx → Elt F .f32) : sProp 𝕄) := by
  rw [o_eq]
  refine bigSep_mono fun b _ => ?_
  unfold odone
  show iprop(∃ g, ⌜(oblk b).view.read (Elt F) g = val b⌝ ∗ oP c b g) ⊢ (oP c b (joined val) : sProp 𝕄)
  iintro ⟨%g, %hg, H⟩
  iapply (ent_of_eq (pointsTo_congr (eq_joined c val b g hg)))
  iexact H

/-- A slot as its elements of the ring. -/
theorem rP_eq (c : Dev nD) (s : Fin 4) (f) : rP (F := F) c s f = (((c : Thread nD τ).loc cc0_scoped0) ↦[rSet s]{fullShare} f : sProp 𝕄) :=
  congrArg (fun S => (_ ↦[S]{fullShare} f : sProp 𝕄)) (rslot_set s)
theorem wP_eq (c : Dev nD) (s : Fin 2) (f) : wP (F := F) c s f = (((c : Thread nD τ).loc cc0_scoped2) ↦[wSet s]{fullShare} f : sProp 𝕄) :=
  congrArg (fun S => (_ ↦[S]{fullShare} f : sProp 𝕄)) (wslot_set s)

/-- The read ring at given contents is its slots at them. -/
theorem r_split_at (c : Dev nD) (f : Buf (Elt F) ((c : Thread nD τ).loc cc0_scoped0)) :
    (((c : Thread nD τ).loc cc0_scoped0) ↦{fullShare} f : sProp 𝕄) ⊢ bigSep Finset.univ (fun s : Fin 4 => iprop(∃ f, rP c s f)) := by
  rw [Ring.pointsTo_blocks (ℓ := (c : Thread nD τ).loc cc0_scoped0) rSet r_disjoint r_cover]
  refine bigSep_mono fun s _ => ?_
  show (((c : Thread nD τ).loc cc0_scoped0) ↦[rSet s]{fullShare} f : sProp 𝕄) ⊢ iprop(∃ f, rP c s f)
  iintro H; iexists f; iapply (ent_of_eq (rP_eq c s f).symm); iexact H
/-- The read ring whole, at anything, is its four slots at anything, and back. -/
theorem r_split (c : Dev nD) :
    iprop(∃ f : Buf (Elt F) ((c : Thread nD τ).loc cc0_scoped0), ((c : Thread nD τ).loc cc0_scoped0) ↦{fullShare} f)
      ⊢ (bigSep Finset.univ (fun s : Fin 4 => iprop(∃ f, rP c s f)) : sProp 𝕄) := by
  iintro ⟨%f, H⟩
  iapply (r_split_at c f); iexact H
/-- The read ring's slots, each at whatever it holds, are the ring at some contents. -/
theorem r_join (c : Dev nD) :
    (bigSep Finset.univ (fun s : Fin 4 => iprop(∃ f, rP c s f)) : sProp 𝕄)
      ⊢ iprop(∃ f : Buf (Elt F) ((c : Thread nD τ).loc cc0_scoped0), ((c : Thread nD τ).loc cc0_scoped0) ↦{fullShare} f) := by
  refine BI.BIBase.Entails.trans (bigSep_mono fun s _ => ?_)
    (Ring.pointsTo_blocks_join_exists (ℓ := (c : Thread nD τ).loc cc0_scoped0) rSet r_disjoint r_cover (fun _ => Classical.arbitrary _))
  show (iprop(∃ f, rP c s f) : sProp 𝕄) ⊢ iprop(∃ f, ((c : Thread nD τ).loc cc0_scoped0) ↦[rSet s]{fullShare} f)
  iintro ⟨%f, H⟩; iexists f; iapply (ent_of_eq (rP_eq c s f)); iexact H

/-- The write ring at given contents is its slots at them. -/
theorem w_split_at (c : Dev nD) (f : Buf (Elt F) ((c : Thread nD τ).loc cc0_scoped2)) :
    (((c : Thread nD τ).loc cc0_scoped2) ↦{fullShare} f : sProp 𝕄) ⊢ bigSep Finset.univ (fun s : Fin 2 => iprop(∃ f, wP c s f)) := by
  rw [Ring.pointsTo_blocks (ℓ := (c : Thread nD τ).loc cc0_scoped2) wSet w_disjoint w_cover]
  refine bigSep_mono fun s _ => ?_
  show (((c : Thread nD τ).loc cc0_scoped2) ↦[wSet s]{fullShare} f : sProp 𝕄) ⊢ iprop(∃ f, wP c s f)
  iintro H; iexists f; iapply (ent_of_eq (wP_eq c s f).symm); iexact H
/-- The write ring whole, at anything, is its two slots at anything, and back. -/
theorem w_split (c : Dev nD) :
    iprop(∃ f : Buf (Elt F) ((c : Thread nD τ).loc cc0_scoped2), ((c : Thread nD τ).loc cc0_scoped2) ↦{fullShare} f)
      ⊢ (bigSep Finset.univ (fun s : Fin 2 => iprop(∃ f, wP c s f)) : sProp 𝕄) := by
  iintro ⟨%f, H⟩
  iapply (w_split_at c f); iexact H
/-- The write ring's slots, each at whatever it holds, are the ring at some contents. -/
theorem w_join (c : Dev nD) :
    (bigSep Finset.univ (fun s : Fin 2 => iprop(∃ f, wP c s f)) : sProp 𝕄)
      ⊢ iprop(∃ f : Buf (Elt F) ((c : Thread nD τ).loc cc0_scoped2), ((c : Thread nD τ).loc cc0_scoped2) ↦{fullShare} f) := by
  refine BI.BIBase.Entails.trans (bigSep_mono fun s _ => ?_)
    (Ring.pointsTo_blocks_join_exists (ℓ := (c : Thread nD τ).loc cc0_scoped2) wSet w_disjoint w_cover (fun _ => Classical.arbitrary _))
  show (iprop(∃ f, wP c s f) : sProp 𝕄) ⊢ iprop(∃ f, ((c : Thread nD τ).loc cc0_scoped2) ↦[wSet s]{fullShare} f)
  iintro ⟨%f, H⟩; iexists f; iapply (ent_of_eq (wP_eq c s f)); iexact H

end Cert.Proof.Mlp
end
-- ==== Proof.Run.lean ====
/-
  The run of the pipelined kernel, over any float values.

  The host part casts the four weight matrices and gives the biases a leading axis; the region stages these eight arrays
  into VMEM once and runs the body, which streams `x`. From any memory, with every counter at zero, every weakly fair
  execution ends with every argument as it was, the result holding `outArr` (block by block, the four layers on the
  block's rows), and every counter at zero.
-/
module

public import proofs.«01_k».proof.Proof.Split
public import proofs.«01_k».proof.Proof.Gen.KernelIdeal.Frame
public import Idealize.ShloMosaic.Lib.VecWindow

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The values -/

/-- `x` as launched. -/
abbrev xArr (c : Dev nD) : Buf (Elt F) (xM.view.loc (c : Thread nD τ)) := m ((c : Thread nD τ).loc main_arg1)

/-- The result's block `b`: the four layers on block `b` of `x`, with the weights and biases as the host part leaves them. -/
def outBlk (c : Dev nD) (b : Fin 16) : S1024x192.Idx → Elt F .f32 :=
  mlpBlock ((xblk b).view.read (Elt F) (xArr m c)) (V m c main_v0) (V m c main_v1) (V m c main_v2) (V m c main_v3)
    (V m c main_v4) (V m c main_v5) (V m c main_v6) (V m c main_v7)

/-- The result whole. -/
def outArr (c : Dev nD) : S16384x192.Idx → Elt F .f32 := joined (outBlk m c)

/-! ## The staged windows -/

/-- The eight staging buffers: each layer's weights and bias, in turn, each the whole of its memref. -/
abbrev st0 (t : Fin cfg0.N) : Memref sig .tc .vmem S192x256 .bf16 := win0_0.stage (cfg0.slots t 0)
abbrev hst0 (t : Fin cfg0.N) : (st0 t).IsWhole := hstage0_0 0
abbrev st1 (t : Fin cfg0.N) : Memref sig .tc .vmem S1x256 .f32 := win0_1.stage (cfg0.slots t 1)
abbrev hst1 (t : Fin cfg0.N) : (st1 t).IsWhole := hstage0_1 0
abbrev st2 (t : Fin cfg0.N) : Memref sig .tc .vmem S256x256 .bf16 := win0_2.stage (cfg0.slots t 2)
abbrev hst2 (t : Fin cfg0.N) : (st2 t).IsWhole := hstage0_2 0
abbrev st3 (t : Fin cfg0.N) : Memref sig .tc .vmem S1x256 .f32 := win0_3.stage (cfg0.slots t 3)
abbrev hst3 (t : Fin cfg0.N) : (st3 t).IsWhole := hstage0_3 0
abbrev st4 (t : Fin cfg0.N) : Memref sig .tc .vmem S256x256 .bf16 := win0_4.stage (cfg0.slots t 4)
abbrev hst4 (t : Fin cfg0.N) : (st4 t).IsWhole := hstage0_4 0
abbrev st5 (t : Fin cfg0.N) : Memref sig .tc .vmem S1x256 .f32 := win0_5.stage (cfg0.slots t 5)
abbrev hst5 (t : Fin cfg0.N) : (st5 t).IsWhole := hstage0_5 0
abbrev st6 (t : Fin cfg0.N) : Memref sig .tc .vmem S256x192 .bf16 := win0_6.stage (cfg0.slots t 6)
abbrev hst6 (t : Fin cfg0.N) : (st6 t).IsWhole := hstage0_6 0
abbrev st7 (t : Fin cfg0.N) : Memref sig .tc .vmem S1x192 .f32 := win0_7.stage (cfg0.slots t 7)
abbrev hst7 (t : Fin cfg0.N) : (st7 t).IsWhole := hstage0_7 0

/-- A window that is the whole array has the array as its block. -/
theorem iblk_w0 (c : Dev nD) (t : Fin cfg0.N) : (iblk m c 0 t : S192x256.Idx → Elt F .bf16) = V m c main_v0 := by
  funext y
  refine congrArg (V m c main_v0) (funext fun a => Fin.ext ?_)
  fin_cases a
  · show 0 * 192 + 1 * (y 0).val = (y 0).val; omega
  · show 0 * 256 + 1 * (y 1).val = (y 1).val; omega
theorem iblk_w1 (c : Dev nD) (t : Fin cfg0.N) : (iblk m c 1 t : S1x256.Idx → Elt F .f32) = V m c main_v1 := by
  funext y
  refine congrArg (V m c main_v1) (funext fun a => Fin.ext ?_)
  fin_cases a
  · show 0 * 1 + 1 * (y 0).val = (y 0).val; omega
  · show 0 * 256 + 1 * (y 1).val = (y 1).val; omega
theorem iblk_w2 (c : Dev nD) (t : Fin cfg0.N) : (iblk m c 2 t : S256x256.Idx → Elt F .bf16) = V m c main_v2 := by
  funext y
  refine congrArg (V m c main_v2) (funext fun a => Fin.ext ?_)
  fin_cases a
  · show 0 * 256 + 1 * (y 0).val = (y 0).val; omega
  · show 0 * 256 + 1 * (y 1).val = (y 1).val; omega
theorem iblk_w3 (c : Dev nD) (t : Fin cfg0.N) : (iblk m c 3 t : S1x256.Idx → Elt F .f32) = V m c main_v3 := by
  funext y
  refine congrArg (V m c main_v3) (funext fun a => Fin.ext ?_)
  fin_cases a
  · show 0 * 1 + 1 * (y 0).val = (y 0).val; omega
  · show 0 * 256 + 1 * (y 1).val = (y 1).val; omega
theorem iblk_w4 (c : Dev nD) (t : Fin cfg0.N) : (iblk m c 4 t : S256x256.Idx → Elt F .bf16) = V m c main_v4 := by
  funext y
  refine congrArg (V m c main_v4) (funext fun a => Fin.ext ?_)
  fin_cases a
  · show 0 * 256 + 1 * (y 0).val = (y 0).val; omega
  · show 0 * 256 + 1 * (y 1).val = (y 1).val; omega
theorem iblk_w5 (c : Dev nD) (t : Fin cfg0.N) : (iblk m c 5 t : S1x256.Idx → Elt F .f32) = V m c main_v5 := by
  funext y
  refine congrArg (V m c main_v5) (funext fun a => Fin.ext ?_)
  fin_cases a
  · show 0 * 1 + 1 * (y 0).val = (y 0).val; omega
  · show 0 * 256 + 1 * (y 1).val = (y 1).val; omega
theorem iblk_w6 (c : Dev nD) (t : Fin cfg0.N) : (iblk m c 6 t : S256x192.Idx → Elt F .bf16) = V m c main_v6 := by
  funext y
  refine congrArg (V m c main_v6) (funext fun a => Fin.ext ?_)
  fin_cases a
  · show 0 * 256 + 1 * (y 0).val = (y 0).val; omega
  · show 0 * 192 + 1 * (y 1).val = (y 1).val; omega
theorem iblk_w7 (c : Dev nD) (t : Fin cfg0.N) : (iblk m c 7 t : S1x192.Idx → Elt F .f32) = V m c main_v7 := by
  funext y
  refine congrArg (V m c main_v7) (funext fun a => Fin.ext ?_)
  fin_cases a
  · show 0 * 1 + 1 * (y 0).val = (y 0).val; omega
  · show 0 * 192 + 1 * (y 1).val = (y 1).val; omega

/-- A staging buffer that represents `X` reads as `X` through the whole of it. -/
theorem staged_read {s : Shape} {e : EltTy} (M : Memref sig .tc .vmem s e) {off : Fin s.rank → ℕ}
    (inb : ∀ a, off a + s.size a ≤ s.size a) (X : s.Idx → Elt F e) :
    M.view.readAt (Elt F) (Rect.unit (s := s) off s.size inb).toLoadRect (M.view.rep X) = X :=
  (View.readAt_full M.view _ inb).trans (View.read_rep _ _)

/-- What the body makes of a block from the staged windows is `outBlk`. -/
theorem outVal_eq (c : Dev nD) (t : Fin cfg0.N) :
    outVal c (xArr m c) (st0 t) (st1 t) (st2 t) (st3 t) (st4 t) (st5 t) (st6 t) (st7 t)
      ((st0 t).view.rep (iblk m c 0 t)) ((st1 t).view.rep (iblk m c 1 t)) ((st2 t).view.rep (iblk m c 2 t)) ((st3 t).view.rep (iblk m c 3 t)) ((st4 t).view.rep (iblk m c 4 t)) ((st5 t).view.rep (iblk m c 5 t)) ((st6 t).view.rep (iblk m c 6 t)) ((st7 t).view.rep (iblk m c 7 t)) = outBlk m c := by
  funext b
  unfold outVal outBlk
  rw [staged_read (st0 t) inb_S192x256_S192x256_0_0, staged_read (st1 t) inb_S1x256_S1x256_0_0, staged_read (st2 t) inb_S256x256_S256x256_0_0, staged_read (st3 t) inb_S1x256_S1x256_0_0, staged_read (st4 t) inb_S256x256_S256x256_0_0, staged_read (st5 t) inb_S1x256_S1x256_0_0, staged_read (st6 t) inb_S256x192_S256x192_0_0, staged_read (st7 t) inb_S1x192_S1x192_0_0]
  rw [iblk_w0, iblk_w1, iblk_w2, iblk_w3, iblk_w4, iblk_w5, iblk_w6, iblk_w7]

/-! ## The kernel's own semaphores -/

/-- The four read slots' and the two write slots'. -/
abbrev osem : Fin 6 → SemLoc sig := fun
  | 0 => .dma (rsem 0).sem | 1 => .dma (rsem 1).sem | 2 => .dma (rsem 2).sem | 3 => .dma (rsem 3).sem
  | 4 => .dma (wsem 0).sem | 5 => .dma (wsem 1).sem
/-- No staged window uses them. -/
theorem ownSemFacts : Pipeline.OwnSemFacts spec0 osem := by decide

/-- All of them at zero, written out. -/
theorem ownSems0_eq (c : Dev nD) : (Pipeline.ownSems0 (Ix := Unit) (Name := ℕ) (U := UU nD τ) (Lvl := ℕ) (Val := Elt F) (τ := τ) osem c : sProp 𝕄)
    = iprop(rcell c 0 ∗ rcell c 1 ∗ rcell c 2 ∗ rcell c 3 ∗ wcell c 0 ∗ wcell c 1) := by
  unfold Pipeline.ownSems0
  exact bigSep_univ_eq_bigSepL [(0 : Fin 6), (1 : Fin 6), (2 : Fin 6), (3 : Fin 6), (4 : Fin 6), (5 : Fin 6)] (by decide) (by decide) _

/-- The rings and the cells are the slots free. -/
theorem slots_split (c : Dev nD) :
    iprop(Pipeline.ownSems0 osem c
        ∗ (∃ f : Buf (Elt F) ((c : Thread nD τ).loc cc0_scoped0), ((c : Thread nD τ).loc cc0_scoped0) ↦{fullShare} f)
        ∗ (∃ f : Buf (Elt F) ((c : Thread nD τ).loc cc0_scoped2), ((c : Thread nD τ).loc cc0_scoped2) ↦{fullShare} f))
      ⊢ (iprop(bigSep Finset.univ (rfree (F := F) c) ∗ bigSep Finset.univ (wfree (F := F) c)) : sProp 𝕄) := by
  rw [ownSems0_eq, bigSep_four (rfree (F := F) c), bigSep_two (wfree (F := F) c)]
  unfold rfree wfree
  iintro ⟨⟨C0, C1, C2, C3, D0, D1⟩, HR, HW⟩
  ihave HR2 := (r_split c) $$ HR
  ihave HW2 := (w_split c) $$ HW
  ihave HR3 := (ent_of_eq (bigSep_four _)) $$ HR2
  ihave HW3 := (ent_of_eq (bigSep_two _)) $$ HW2
  icases HR3 with ⟨R0, R1, R2, R3⟩
  icases HW3 with ⟨W0, W1⟩
  isplitl [C0 C1 C2 C3 R0 R1 R2 R3]
  · isplitl [C0 R0]
    · isplitl [C0]; · iexact C0
      iexact R0
    isplitl [C1 R1]
    · isplitl [C1]; · iexact C1
      iexact R1
    isplitl [C2 R2]
    · isplitl [C2]; · iexact C2
      iexact R2
    isplitl [C3]; · iexact C3
    iexact R3
  isplitl [D0 W0]
  · isplitl [D0]; · iexact D0
    iexact W0
  isplitl [D1]; · iexact D1
  iexact W1

/-- and back. -/
theorem slots_join (c : Dev nD) :
    (iprop(bigSep Finset.univ (rfree (F := F) c) ∗ bigSep Finset.univ (wfree (F := F) c)) : sProp 𝕄)
      ⊢ iprop(Pipeline.ownSems0 osem c
        ∗ (∃ f : Buf (Elt F) ((c : Thread nD τ).loc cc0_scoped0), ((c : Thread nD τ).loc cc0_scoped0) ↦{fullShare} f)
        ∗ (∃ f : Buf (Elt F) ((c : Thread nD τ).loc cc0_scoped2), ((c : Thread nD τ).loc cc0_scoped2) ↦{fullShare} f)) := by
  rw [ownSems0_eq, bigSep_four (rfree (F := F) c), bigSep_two (wfree (F := F) c)]
  unfold rfree wfree
  iintro ⟨⟨⟨C0, R0⟩, ⟨C1, R1⟩, ⟨C2, R2⟩, ⟨C3, R3⟩⟩, ⟨D0, W0⟩, ⟨D1, W1⟩⟩
  isplitl [C0 C1 C2 C3 D0 D1]
  · isplitl [C0]; · iexact C0
    isplitl [C1]; · iexact C1
    isplitl [C2]; · iexact C2
    isplitl [C3]; · iexact C3
    isplitl [D0]; · iexact D0
    iexact D1
  isplitl [R0 R1 R2 R3]
  · iapply (r_join c)
    iapply (ent_of_eq (bigSep_four _).symm)
    isplitl [R0]; · iexact R0
    isplitl [R1]; · iexact R1
    isplitl [R2]; · iexact R2
    iexact R3
  iapply (w_join c)
  iapply (ent_of_eq (bigSep_two _).symm)
  isplitl [W0]; · iexact W0
  iexact W1

/-! ## The region's proof data -/

/-- What the region keeps beside the staged windows before its one point, -/
def Φ₀ (c : Dev nD) : sProp 𝕄 :=
  iprop(bigSep Finset.univ (xP c (xArr m c)) ∗ bigSep Finset.univ (rfree (F := F) c) ∗ bigSep Finset.univ (wfree (F := F) c)
    ∗ bigSep Finset.univ (oany (F := F) c))
/-- and after it. -/
def Φ₁ (c : Dev nD) : sProp 𝕄 :=
  iprop(bigSep Finset.univ (xP c (xArr m c)) ∗ bigSep Finset.univ (rfree (F := F) c) ∗ bigSep Finset.univ (wfree (F := F) c)
    ∗ bigSep Finset.univ (odone c (outBlk m c)))

/-- The region's data: the windows come in as the host part left them and are not written. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ k := if k.val = 0 then Φ₀ m c else Φ₁ m c
  q _ := fullShare
  owed _ := 0

/-- What the region keeps, before and after its point. -/
theorem Φ_before (c : Dev nD) (t : Fin cfg0.N) : (dats m 0 c).Φ t.castSucc = Φ₀ m c := by
  have h : t.val < 1 := by have h := t.isLt; have e : cfg0.N = 1 := N_0; omega
  show (if t.val = 0 then Φ₀ m c else Φ₁ m c) = Φ₀ m c
  rw [if_pos (by omega)]
theorem Φ_after (c : Dev nD) (t : Fin cfg0.N) : (dats m 0 c).Φ t.succ = Φ₁ m c := by
  show (if t.val + 1 = 0 then Φ₀ m c else Φ₁ m c) = Φ₁ m c
  rw [if_neg (Nat.succ_ne_zero _)]
theorem Φ_last (c : Dev nD) : (dats m 0 c).Φ (Fin.last cfg0.N) = Φ₁ m c := by
  show (if cfg0.N = 0 then Φ₀ m c else Φ₁ m c) = Φ₁ m c
  rw [if_neg (by rw [show cfg0.N = 1 from N_0]; decide)]

/-- A window's staging buffer holds its block before the point and after it. -/
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w2 (c : Dev nD) (t : Fin cfg0.N) : (dats m 0 c).after 2 t = iblk m c 2 t := by dsimp only [dats]
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w3 (c : Dev nD) (t : Fin cfg0.N) : (dats m 0 c).after 3 t = iblk m c 3 t := by dsimp only [dats]
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w4 (c : Dev nD) (t : Fin cfg0.N) : (dats m 0 c).after 4 t = iblk m c 4 t := by dsimp only [dats]
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
theorem after_w5 (c : Dev nD) (t : Fin cfg0.N) : (dats m 0 c).after 5 t = iblk m c 5 t := by dsimp only [dats]
theorem before_w6 (c : Dev nD) (t : Fin cfg0.N) (d) : (dats m 0 c).before 6 t d = iblk m c 6 t := by
  unfold Dat.before; rw [if_pos (fetch0_6 t)]; unfold Dat.fetched Dat.blockOf iblk; dsimp only [dats]; rfl
theorem after_w6 (c : Dev nD) (t : Fin cfg0.N) : (dats m 0 c).after 6 t = iblk m c 6 t := by dsimp only [dats]
theorem before_w7 (c : Dev nD) (t : Fin cfg0.N) (d) : (dats m 0 c).before 7 t d = iblk m c 7 t := by
  unfold Dat.before; rw [if_pos (fetch0_7 t)]; unfold Dat.fetched Dat.blockOf iblk; dsimp only [dats]; rfl
theorem after_w7 (c : Dev nD) (t : Fin cfg0.N) : (dats m 0 c).after 7 t = iblk m c 7 t := by dsimp only [dats]

/-! ## The body obligation -/

/-- The body table's entry is the kernel on the staging memrefs; -/
theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0) := rfl
/-- at a point, on the point's. -/
theorem prog_eq (t : Fin cfg0.N) : (defs₀ (F := F)) .tc cfg0.body (cfg0.bodyArgs t (cfg0.slots t))
    = bodyG (st0 t) (hst0 t) (st1 t) (hst1 t) (st2 t) (hst2 t) (st3 t) (hst3 t) (st4 t) (hst4 t) (st5 t) (hst5 t) (st6 t) (hst6 t) (st7 t) (hst7 t) :=
  (congrFun defs_tc _).trans rfl

set_option backward.isDefEq.respectTransparency.types false in
set_option maxHeartbeats 4000000 in
/-- At its one point the region runs `bodyRun`: the blocks of the result end at `outBlk`. -/
theorem body_obligation (c : Dev nD) : BodyObligation (dats (F := F) m 0 c) (defs₀ (F := F)) 𝒱₀ () Set.univ := fun t => by
  rw [bigSep_W0, bigSep_W0]
  dsimp only
  simp only [before_w0, after_w0, before_w1, after_w1, before_w2, after_w2, before_w3, after_w3, before_w4, after_w4, before_w5, after_w5, before_w6, after_w6, before_w7, after_w7]
  rw [Φ_before, Φ_after]
  unfold Dat.owesAt Pipeline.owesWithin
  rw [show (dats m 0 c).owed t.castSucc = 0 from rfl, show (dats m 0 c).owed t.succ = 0 from rfl]
  unfold owns Φ₀ Φ₁
  iintro ⟨⟨HX, HR, HWr, HO⟩, ⟨%W, -, HW⟩, ⟨%d0, %k0, %hk0, H0⟩, ⟨%d1, %k1, %hk1, H1⟩, ⟨%d2, %k2, %hk2, H2⟩, ⟨%d3, %k3, %hk3, H3⟩, ⟨%d4, %k4, %hk4, H4⟩, ⟨%d5, %k5, %hk5, H5⟩, ⟨%d6, %k6, %hk6, H6⟩, ⟨%d7, %k7, %hk7, H7⟩⟩
  ihave G0 := (pointsTo_rep_entails (c : Thread nD τ) (st0 t) k0 fullShare) $$ H0
  ihave G1 := (pointsTo_rep_entails (c : Thread nD τ) (st1 t) k1 fullShare) $$ H1
  ihave G2 := (pointsTo_rep_entails (c : Thread nD τ) (st2 t) k2 fullShare) $$ H2
  ihave G3 := (pointsTo_rep_entails (c : Thread nD τ) (st3 t) k3 fullShare) $$ H3
  ihave G4 := (pointsTo_rep_entails (c : Thread nD τ) (st4 t) k4 fullShare) $$ H4
  ihave G5 := (pointsTo_rep_entails (c : Thread nD τ) (st5 t) k5 fullShare) $$ H5
  ihave G6 := (pointsTo_rep_entails (c : Thread nD τ) (st6 t) k6 fullShare) $$ H6
  ihave G7 := (pointsTo_rep_entails (c : Thread nD τ) (st7 t) k7 fullShare) $$ H7
  rw [hk0, hk1, hk2, hk3, hk4, hk5, hk6, hk7]
  sl_rw [prog_eq t]
  iapply (bodyRun c (xArr m c) (st0 t) (hst0 t) (st1 t) (hst1 t) (st2 t) (hst2 t) (st3 t) (hst3 t) (st4 t) (hst4 t) (st5 t) (hst5 t) (st6 t) (hst6 t) (st7 t) (hst7 t)
    ((st0 t).view.rep (iblk m c 0 t)) ((st1 t).view.rep (iblk m c 1 t)) ((st2 t).view.rep (iblk m c 2 t)) ((st3 t).view.rep (iblk m c 3 t)) ((st4 t).view.rep (iblk m c 4 t)) ((st5 t).view.rep (iblk m c 5 t)) ((st6 t).view.rep (iblk m c 6 t)) ((st7 t).view.rep (iblk m c 7 t)))
  isplitl [G0 G1 G2 G3 G4 G5 G6 G7 HW HX HR HWr]
  · isplitl [G0 G1 G2 G3 G4 G5 G6 G7]
    · isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
    isplitl [HW]; · iexists W; iexact HW
    isplitl [HX]; · iexact HX
    isplitl [HR]; · iexact HR
    iexact HWr
  isplitl [HO]; · iexact HO
  irw [outVal_eq m c t]
  iintro ⟨⟨⟨G0, G1, G2, G3, G4, G5, G6, G7⟩, ⟨%W', HW⟩, HX, HR, HWr⟩, HO⟩
  isplitl [HX HR HWr HO]
  · isplitl [HX]; · iexact HX
    isplitl [HR]; · iexact HR
    isplitl [HWr]; · iexact HWr
    iexact HO
  isplitl [HW]
  · iexists W'; isplitr; · ipureintro; exact fun _ _ => Or.inl trivial
    iexact HW
  isplitl [G0]
  · iexists _; isplitr; · ipureintro; exact View.read_rep _ _
    iexact G0
  isplitl [G1]
  · iexists _; isplitr; · ipureintro; exact View.read_rep _ _
    iexact G1
  isplitl [G2]
  · iexists _; isplitr; · ipureintro; exact View.read_rep _ _
    iexact G2
  isplitl [G3]
  · iexists _; isplitr; · ipureintro; exact View.read_rep _ _
    iexact G3
  isplitl [G4]
  · iexists _; isplitr; · ipureintro; exact View.read_rep _ _
    iexact G4
  isplitl [G5]
  · iexists _; isplitr; · ipureintro; exact View.read_rep _ _
    iexact G5
  isplitl [G6]
  · iexists _; isplitr; · ipureintro; exact View.read_rep _ _
    iexact G6
  iexists _; isplitr; · ipureintro; exact View.read_rep _ _
  iexact G7

/-! ## The run -/

/-- What goes into the region, -/
def intoΦ (c : Dev nD) : sProp 𝕄 :=
  iprop(bigSep Finset.univ (xP c (xArr m c)) ∗ bigSep Finset.univ (oany (F := F) c) ∗ Pipeline.ownSems0 osem c)
/-- what comes out, -/
def outOfΦ (c : Dev nD) : sProp 𝕄 :=
  iprop((((c : Thread nD τ).loc main_arg1) ↦{fullShare} m ((c : Thread nD τ).loc main_arg1))
    ∗ (((c : Thread nD τ).loc main_v8) ↦{fullShare} outArr m c))
/-- and the arguments the region does not touch. -/
def around_args (c : Dev nD) : sProp 𝕄 :=
  iprop((((c : Thread nD τ).loc main_arg0) ↦{fullShare} m ((c : Thread nD τ).loc main_arg0))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_arg4) ↦{fullShare} m ((c : Thread nD τ).loc main_arg4))
    ∗ (((c : Thread nD τ).loc main_arg5) ↦{fullShare} m ((c : Thread nD τ).loc main_arg5))
    ∗ (((c : Thread nD τ).loc main_arg6) ↦{fullShare} m ((c : Thread nD τ).loc main_arg6))
    ∗ (((c : Thread nD τ).loc main_arg7) ↦{fullShare} m ((c : Thread nD τ).loc main_arg7))
    ∗ (((c : Thread nD τ).loc main_arg8) ↦{fullShare} m ((c : Thread nD τ).loc main_arg8))
    ∗ (((c : Thread nD τ).loc main_arg9) ↦{fullShare} m ((c : Thread nD τ).loc main_arg9)))
/-- The ghost state at launch. -/
def u₀ : UU nD τ := (initOf (Pipeline.cells cfgs cellOf_inj) (Pipeline.launchToks cfgs cellOf_inj), 1)

/-- The final memory on one core: the result at `outArr`, every argument as launched. -/
def Final (c : Dev nD) (s : MemSt nD τ sig (Elt F)) : Prop :=
  s.mem ((c : Thread nD τ).loc main_v8) = outArr m c
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg7) = m ((c : Thread nD τ).loc main_arg7)
  ∧ s.mem ((c : Thread nD τ).loc main_arg8) = m ((c : Thread nD τ).loc main_arg8)
  ∧ s.mem ((c : Thread nD τ).loc main_arg9) = m ((c : Thread nD τ).loc main_arg9)

set_option backward.isDefEq.respectTransparency.types false in
/-- From any memory with zero counters, over any float values: every weakly fair execution of @main on the TensorCores
    ends, and every final state is `Final` on each core with every counter at zero. -/
theorem run_main : θ_run defs (onTc (τ := τ) (main (F := F))) ⟨m, fun _ => 0, ρ⟩ (fun r => (∀ c : Dev nD, Final m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := around_args m)
    (hX := fun c => by
      rw [unscopedRest0_eq, V_main_arg0, V_main_arg1, V_main_arg2, V_main_arg3, V_main_arg4, V_main_arg5, V_main_arg6, V_main_arg7, V_main_arg8, V_main_arg9, x_eq c]
      unfold intoΦ around_args
      iintro ⟨⟨H0, H1, H2, H3, H4, H5, H6, H7, H8, H9, HO⟩, HS, -, -, -⟩; imodintro
      ihave HO2 := (o_split c _) $$ HO
      isplitl [H1 HO2 HS]
      · isplitl [H1]; · iexact H1
        isplitl [HO2]; · iexact HO2
        iexact HS
      isplitl [H0]; · iexact H0
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9)
    (hin := fun c => by
      rw [scopedRest0_eq, show (dats m 0 c).Φ 0 = Φ₀ m c from rfl]
      unfold intoΦ Φ₀
      iintro ⟨⟨HX, HO, HS⟩, HR, HW⟩
      ihave H := (slots_split c) $$ [HS HR HW]
      · isplitl [HS]; · iexact HS
        isplitl [HR]; · iexact HR
        iexact HW
      icases H with ⟨HR, HW⟩
      isplitl [HX]; · iexact HX
      isplitl [HR]; · iexact HR
      isplitl [HW]; · iexact HW
      iexact HO)
    (hout := fun c => by
      rw [scopedRest0_eq, Φ_last]
      unfold Φ₁ outOfΦ; rw [x_eq c]
      iintro ⟨HX, HR, HW, HO⟩
      ihave H := (slots_join c) $$ [HR HW]
      · isplitl [HR]; · iexact HR
        iexact HW
      icases H with ⟨HS, HR, HW⟩
      isplitl [HX HO]
      · isplitl [HX]; · iexact HX
        iapply (o_join c (outBlk m c)); iexact HO
      isplitl [HS]; · iexact HS
      isplitl [HR]; · iexact HR
      iexact HW)
    (QY := Final m)
    (hY := fun c s' => by
      unfold outOfΦ around_args
      iintro ⟨⟨H1, HO⟩, ⟨H0, H2, H3, H4, H5, H6, H7, H8, H9⟩, HSI⟩
      icombine HSI HO gives %hO
      icombine HSI H0 gives %h0
      icombine HSI H1 gives %h1
      icombine HSI H2 gives %h2
      icombine HSI H3 gives %h3
      icombine HSI H4 gives %h4
      icombine HSI H5 gives %h5
      icombine HSI H6 gives %h6
      icombine HSI H7 gives %h7
      icombine HSI H8 gives %h8
      icombine HSI H9 gives %h9
      imodintro
      isplitr
      · ipureintro
        exact ⟨Buf.eq_of_forall_mem_univ hO, Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7, Buf.eq_of_forall_mem_univ h8, Buf.eq_of_forall_mem_univ h9⟩
      iexact HSI)
    (hQ := fun _ hh hz => ⟨fun c => (hh c).2, hz⟩)

end Cert.Proof.Mlp
end
-- ==== Proof.Layers.lean ====
/-
  The network over the extended reals, one row at a time, and one layer of it as each program writes it.

  A row of `x` goes through four affine layers: after the first comes the rectifier, after the second and third the
  sigmoid-weighted unit `h · σ(h)`, after the last nothing (`mlpRow`). Read at row `r` and column `j`, the kernel's product
  onto a zero accumulator plus a broadcast bias is the affine layer of row `r` (`dense_kernel`), and so is the reference's
  product plus a twice broadcast bias (`dense_host`). The reference writes σ as `1 / (1 + exp (-h))`, the kernel as one
  operation: over the extended reals the two are the same number (`silu_host`).
-/
module

public import Idealize.ShloMosaic.Lib.StackMember
public import Idealize.ShloMosaic.Lib.MatmulPlain
public import Idealize.ShloMosaic.Lib.IdealHost
public import Idealize.ShloMosaic.Lib.ValueIdx
public import Idealize.ShloMosaic.Lib.Pipeline.Value

@[expose] public section

noncomputable section

namespace Cert.Proof.Mlp

open Idealize.ShloMosaic Idealize.ShloMosaic.ValueIdx
open scoped BigOperators

/-! ## The network on one row -/

/-- An affine layer: `x W + b`. -/
def dense {K N : ℕ} (x : Fin K → EReal) (W : Fin K → Fin N → EReal) (b : Fin N → EReal) (j : Fin N) : EReal :=
  ∑ k : Fin K, x k * W k j + b j

/-- The rectifier. -/
def relu (h : EReal) : EReal := max h 0

/-- The sigmoid-weighted unit. -/
def silu (h : EReal) : EReal := h * Ideal.logistic h

/-- The four layers on one row. -/
def mlpRow (x : Fin 192 → EReal) (W1 : Fin 192 → Fin 256 → EReal) (b1 : Fin 256 → EReal) (W2 : Fin 256 → Fin 256 → EReal)
    (b2 : Fin 256 → EReal) (W3 : Fin 256 → Fin 256 → EReal) (b3 : Fin 256 → EReal) (W4 : Fin 256 → Fin 192 → EReal)
    (b4 : Fin 192 → EReal) : Fin 192 → EReal :=
  dense (fun k => silu (dense (fun k => silu (dense (fun k => relu (dense x W1 b1 k)) W2 b2 k)) W3 b3 k)) W4 b4

/-! ## One layer, as the kernel writes it -/

/-- The kernel's product onto zeros plus its one-row bias, at `(r, j)`, is the affine layer of row `r`. -/
theorem dense_kernel {M K N : ℕ} {φ₁ φ₂ : FTy} (X : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N) :
    addf (matmul (DotDims.plain M K N) none X W (constant (F := Ideal) ⟨2, ![M, N]⟩ .f32 0x00000000#32))
        (broadcastTo ⟨2, ![M, N]⟩ b hb) (ix2 r j)
      = dense (fun k => X (ix2 r k)) (fun k j => W (ix2 k j)) (fun j => b (ix2 0 j)) j := by
  have e1 : matmul (DotDims.plain M K N) none X W (constant (F := Ideal) ⟨2, ![M, N]⟩ .f32 0x00000000#32) (ix2 r j)
      = ∑ k : Fin K, X (ix2 r k) * W (ix2 k j) := by
    refine (Ideal.matmul_plain_apply none X W _ r j).trans ?_
    rw [show (constant (F := Ideal) ⟨2, ![M, N]⟩ .f32 0x00000000#32) (ix2 r j) = (0 : EReal) from Ideal.ofBits_zero_f32, zero_add]
  have e2 : broadcastTo ⟨2, ![M, N]⟩ b hb (ix2 r j) = b (ix2 0 j) := by
    refine broadcastTo_apply b hb (ix2 r j) (ix2 0 j) fun a => ?_
    match a with
    | ⟨0, _⟩ => rfl
    | ⟨1, _⟩ =>
      show j.val = if N = 1 then 0 else j.val
      split
      · have := j.isLt; omega
      · rfl
  exact congrArg₂ (fun a b : EReal => a + b) e1 e2

/-! ## One layer, as the reference writes it -/

/-- The reference's product plus its bias copied into every row, at `(r, j)`, is the affine layer of row `r`. -/
theorem dense_host {M K N : ℕ} {φ₁ φ₂ : FTy} (X : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (r : Fin M) (j : Fin N) :
    addf (Host.dotGeneral (DotDims.plain M K N) none X W)
        (broadcastInDim ⟨2, ![M, N]⟩ ![0, 1] h2 (broadcastInDim ⟨2, ![1, N]⟩ ![1] h1 b)) (ix2 r j)
      = dense (fun k => X (ix2 r k)) (fun k j => W (ix2 k j)) (fun j => b (ix1 j)) j := by
  have e1 := StackMember.dotGeneral_plain_apply none X W r j
  have e2 : broadcastInDim ⟨2, ![M, N]⟩ ![0, 1] h2 (broadcastInDim ⟨2, ![1, N]⟩ ![1] h1 b) (ix2 r j) = b (ix1 j) := by
    refine (broadcastInDim_apply ![0, 1] h2 _ (ix2 r j) (ix2 0 j) fun a => ?_).trans
      (broadcastInDim_apply ![1] h1 b (ix2 0 j) (ix1 j) fun a => ?_)
    · match a with
      | ⟨0, _⟩ => rfl
      | ⟨1, _⟩ =>
        show j.val = if N = 1 then 0 else j.val
        split
        · have := j.isLt; omega
        · rfl
    · match a with
      | ⟨0, _⟩ =>
        show j.val = if N = 1 then 0 else j.val
        split
        · have := j.isLt; omega
        · rfl
  exact congrArg₂ (fun a b : EReal => a + b) e1 e2

/-- The reference's rectifier: the maximum with a zero copied everywhere. -/
theorem relu_host {s : Shape} (h : FVec Ideal s .f32) (hb : (⟨0, ![]⟩ : Shape).BroadcastsInDim s ![]) (i : s.Idx) :
    maximumf h (broadcastInDim s ![] hb (constant (F := Ideal) ⟨0, ![]⟩ .f32 0x00000000#32)) i = relu (h i) :=
  congrArg (fun z : EReal => max (h i) z) Ideal.ofBits_zero_f32

/-- The reference's sigmoid-weighted unit: `h · (1 / (1 + exp (-h)))`. -/
theorem silu_host {s : Shape} (h : FVec Ideal s .f32) (hb : (⟨0, ![]⟩ : Shape).BroadcastsInDim s ![]) (i : s.Idx) :
    mulf h (Host.divf (broadcastInDim s ![] hb (constant (F := Ideal) ⟨0, ![]⟩ .f32 0x3F800000#32))
        (addf (broadcastInDim s ![] hb (constant (F := Ideal) ⟨0, ![]⟩ .f32 0x3F800000#32)) (Host.exp (Host.negf h)))) i
      = silu (h i) := by
  have e : broadcastInDim s ![] hb (constant (F := Ideal) ⟨0, ![]⟩ .f32 0x3F800000#32) i = (1 : EReal) := Ideal.ofBits_one_f32
  exact congrArg (fun z : EReal => h i * Ideal.div z (z + Ideal.exp (-(h i)))) e

end Cert.Proof.Mlp

end
-- ==== Proof.Block.lean ====
/-
  The kernel's block over the extended reals: row `r` of what the body makes of a block of `x` is the network on row `r` of
  the block (`mlpBlock_apply`). Casting a weight or a layer's input to sixteen bits changes no value here.
-/
module

public import proofs.«01_k».proof.Proof.Trip
public import proofs.«01_k».proof.Proof.Layers

@[expose] public section

noncomputable section

namespace Cert.Proof.Mlp

open Cert.KernelIdeal Cert.KernelIdeal.Gen
open Idealize.ShloMosaic Idealize.ShloMosaic.ValueIdx

/-- The first layer's product with the block's leading axis put on and taken off again is the product of the block. -/
theorem k0_pay1_cast (x : FVec Ideal S1024x192 .f32) (w1 : FVec Ideal S192x256 .bf16) :
    k0_pay1 (F := Ideal) (shapeCast S1x1024x192 x shapeCasts_S1024x192_S1x1024x192) w1
      = matmul (DotDims.plain 1024 192 256) none (truncf .bf16 x bitsLt_bf16_f32) w1
          (constant (F := Ideal) ⟨2, ![1024, 256]⟩ .f32 0x00000000#32) := by
  show matmul (DotDims.plain 1024 192 256) none
      (truncf .bf16 (shapeCast S1024x192 (shapeCast S1x1024x192 x shapeCasts_S1024x192_S1x1024x192) shapeCasts_S1x1024x192_S1024x192) bitsLt_bf16_f32)
      (shapeCast S192x256 w1 shapeCasts_S192x256_S192x256) (constant (F := Ideal) ⟨2, ![1024, 256]⟩ .f32 0x00000000#32) = _
  rw [shapeCast_shapeCast, shapeCast_self]

/-- The block after the first layer, -/
def act1 (x : FVec Ideal S1024x192 .f32) (w1 : FVec Ideal S192x256 .bf16) (b1 : FVec Ideal S1x256 .f32) : FVec Ideal S1024x256 .f32 :=
  addf (matmul (DotDims.plain 1024 192 256) none (truncf .bf16 x bitsLt_bf16_f32) w1
    (constant (F := Ideal) ⟨2, ![1024, 256]⟩ .f32 0x00000000#32)) (broadcastTo S1024x256 b1 broadcasts_S1x256_S1024x256)
/-- a middle layer of a block, -/
def actMid (h : FVec Ideal S1024x256 .f32) (w : FVec Ideal S256x256 .bf16) (b : FVec Ideal S1x256 .f32) : FVec Ideal S1024x256 .f32 :=
  addf (matmul (DotDims.plain 1024 256 256) none (truncf .bf16 h bitsLt_bf16_f32) w
    (constant (F := Ideal) ⟨2, ![1024, 256]⟩ .f32 0x00000000#32)) (broadcastTo S1024x256 b broadcasts_S1x256_S1024x256)
/-- the last layer of a block, -/
def actLast (h : FVec Ideal S1024x256 .f32) (w : FVec Ideal S256x192 .bf16) (b : FVec Ideal S1x192 .f32) : FVec Ideal S1024x192 .f32 :=
  addf (matmul (DotDims.plain 1024 256 192) none (truncf .bf16 h bitsLt_bf16_f32) w
    (constant (F := Ideal) ⟨2, ![1024, 192]⟩ .f32 0x00000000#32)) (broadcastTo S1024x192 b broadcasts_S1x192_S1024x192)
/-- the rectifier of a block, -/
def reluBlk (h : FVec Ideal S1024x256 .f32) : FVec Ideal S1024x256 .f32 :=
  maximumf h (broadcast S1024x256 (Scalar.ofBits (F := Ideal) .f32 0x00000000#32))
/-- and the sigmoid-weighted unit of a block. -/
def siluBlk (h : FVec Ideal S1024x256 .f32) : FVec Ideal S1024x256 .f32 := mulf h (logistic h)

/-- The body's arithmetic, layer by layer. -/
theorem mlpBlock_eq (x : FVec Ideal S1024x192 .f32) (w1 : FVec Ideal S192x256 .bf16) (b1 : FVec Ideal S1x256 .f32)
    (w2 : FVec Ideal S256x256 .bf16) (b2 : FVec Ideal S1x256 .f32) (w3 : FVec Ideal S256x256 .bf16) (b3 : FVec Ideal S1x256 .f32)
    (w4 : FVec Ideal S256x192 .bf16) (b4 : FVec Ideal S1x192 .f32) :
    mlpBlock (F := Ideal) x w1 b1 w2 b2 w3 b3 w4 b4
      = actLast (siluBlk (actMid (siluBlk (actMid (reluBlk (act1 x w1 b1)) w2 b2)) w3 b3)) w4 b4 := by
  unfold mlpBlock
  rw [k0_pay1_cast]
  unfold k0_pay2
  simp only [shapeCast_self, shapeCast_shapeCast]
  rfl

/-- Row `r` of a block through the network. -/
theorem mlpBlock_apply (x : FVec Ideal S1024x192 .f32) (w1 : FVec Ideal S192x256 .bf16) (b1 : FVec Ideal S1x256 .f32)
    (w2 : FVec Ideal S256x256 .bf16) (b2 : FVec Ideal S1x256 .f32) (w3 : FVec Ideal S256x256 .bf16) (b3 : FVec Ideal S1x256 .f32)
    (w4 : FVec Ideal S256x192 .bf16) (b4 : FVec Ideal S1x192 .f32) (r : Fin 1024) (j : Fin 192) :
    mlpBlock (F := Ideal) x w1 b1 w2 b2 w3 b3 w4 b4 (ix2 r j)
      = mlpRow (fun k => x (ix2 r k)) (fun k j => w1 (ix2 k j)) (fun j => b1 (ix2 0 j)) (fun k j => w2 (ix2 k j))
          (fun j => b2 (ix2 0 j)) (fun k j => w3 (ix2 k j)) (fun j => b3 (ix2 0 j)) (fun k j => w4 (ix2 k j))
          (fun j => b4 (ix2 0 j)) j := by
  have h1 (k : Fin 256) : reluBlk (act1 x w1 b1) (ix2 r k)
      = relu (dense (fun k => x (ix2 r k)) (fun k j => w1 (ix2 k j)) (fun j => b1 (ix2 0 j)) k) :=
    congrArg₂ (fun a z : EReal => max a z) (dense_kernel (truncf .bf16 x bitsLt_bf16_f32) w1 b1 broadcasts_S1x256_S1024x256 r k)
      Ideal.ofBits_zero_f32
  have hm (h : FVec Ideal S1024x256 .f32) (w : FVec Ideal S256x256 .bf16) (b : FVec Ideal S1x256 .f32) (k : Fin 256) :
      siluBlk (actMid h w b) (ix2 r k) = silu (dense (fun k => h (ix2 r k)) (fun k j => w (ix2 k j)) (fun j => b (ix2 0 j)) k) :=
    congrArg silu (dense_kernel (truncf .bf16 h bitsLt_bf16_f32) w b broadcasts_S1x256_S1024x256 r k)
  rw [mlpBlock_eq]
  refine (dense_kernel (truncf .bf16 _ bitsLt_bf16_f32) w4 b4 broadcasts_S1x192_S1024x192 r j).trans ?_
  unfold mlpRow
  refine congrArg (fun f => dense f (fun k j => w4 (ix2 k j)) (fun j => b4 (ix2 0 j)) j) (funext fun k => ?_)
  refine (hm _ w3 b3 k).trans (congrArg (fun f => silu (dense f (fun k j => w3 (ix2 k j)) (fun j => b3 (ix2 0 j)) k)) (funext fun k => ?_))
  refine (hm _ w2 b2 k).trans (congrArg (fun f => silu (dense f (fun k j => w2 (ix2 k j)) (fun j => b2 (ix2 0 j)) k)) (funext fun k => ?_))
  exact h1 k

end Cert.Proof.Mlp

end
-- ==== Proof.Reference.lean ====
/-
  The reference over the extended reals: row `i` of its result is the network on row `i` of `x` (`res_apply`), and every
  semaphore counter of its run is zero because it declares no semaphore (`ref_frame`).
-/
module

public import proofs.«01_k».proof.Defs
public import proofs.«01_k».proof.Proof.Layers
public import proofs.«01_k».proof.Proof.Gen.ReferenceIdeal
public import proofs.«01_k».proof.Proof.Gen.ReferenceIdeal.Run
public import Idealize.ShloMosaic.Lib.Quiescent

@[expose] public section

noncomputable section

namespace Cert.Proof.Mlp.Ref

open Cert.ReferenceIdeal Cert.ReferenceIdeal.Gen
open Idealize.ShloMosaic Idealize.ShloMosaic.TcCoe Idealize.ShloMosaic.ValueIdx Idealize.SL.Sem

/-- The reference's first layer, -/
def act1 (x : FVec Ideal S16384x192 .f32) (w : FVec Ideal S192x256 .f32) (b : FVec Ideal S256 .f32) : FVec Ideal S16384x256 .f32 :=
  addf (Host.dotGeneral (DotDims.plain 16384 192 256) none x w)
    (broadcastInDim S16384x256 ![0, 1] bcast_S1x256_S16384x256_0_1 (broadcastInDim S1x256 ![1] bcast_S256_S1x256_1 b))
/-- a middle layer, -/
def actMid (h : FVec Ideal S16384x256 .f32) (w : FVec Ideal S256x256 .f32) (b : FVec Ideal S256 .f32) : FVec Ideal S16384x256 .f32 :=
  addf (Host.dotGeneral (DotDims.plain 16384 256 256) none h w)
    (broadcastInDim S16384x256 ![0, 1] bcast_S1x256_S16384x256_0_1 (broadcastInDim S1x256 ![1] bcast_S256_S1x256_1 b))
/-- the last layer, -/
def actLast (h : FVec Ideal S16384x256 .f32) (w : FVec Ideal S256x192 .f32) (b : FVec Ideal S192 .f32) : FVec Ideal S16384x192 .f32 :=
  addf (Host.dotGeneral (DotDims.plain 16384 256 192) none h w)
    (broadcastInDim S16384x192 ![0, 1] bcast_S1x192_S16384x192_0_1 (broadcastInDim S1x192 ![1] bcast_S192_S1x192_1 b))
/-- the rectifier, -/
def reluArr (h : FVec Ideal S16384x256 .f32) : FVec Ideal S16384x256 .f32 :=
  maximumf h (broadcastInDim S16384x256 ![] bcast_S_S16384x256 (constant (F := Ideal) S_ .f32 0x00000000#32))
/-- and the sigmoid-weighted unit. -/
def siluArr (h : FVec Ideal S16384x256 .f32) : FVec Ideal S16384x256 .f32 :=
  mulf h (Host.divf (broadcastInDim S16384x256 ![] bcast_S_S16384x256 (constant (F := Ideal) S_ .f32 0x3F800000#32))
    (addf (broadcastInDim S16384x256 ![] bcast_S_S16384x256 (constant (F := Ideal) S_ .f32 0x3F800000#32)) (Host.exp (Host.negf h))))

/-- Row `i` of the four layers is the network on row `i`. -/
theorem layers_apply (x : FVec Ideal S16384x192 .f32) (w1 : FVec Ideal S192x256 .f32) (b1 : FVec Ideal S256 .f32)
    (w2 : FVec Ideal S256x256 .f32) (b2 : FVec Ideal S256 .f32) (w3 : FVec Ideal S256x256 .f32) (b3 : FVec Ideal S256 .f32)
    (w4 : FVec Ideal S256x192 .f32) (b4 : FVec Ideal S192 .f32) (i : Fin 16384) (j : Fin 192) :
    actLast (siluArr (actMid (siluArr (actMid (reluArr (act1 x w1 b1)) w2 b2)) w3 b3)) w4 b4 (ix2 i j)
      = mlpRow (fun k => x (ix2 i k)) (fun k j => w1 (ix2 k j)) (fun j => b1 (ix1 j)) (fun k j => w2 (ix2 k j))
          (fun j => b2 (ix1 j)) (fun k j => w3 (ix2 k j)) (fun j => b3 (ix1 j)) (fun k j => w4 (ix2 k j))
          (fun j => b4 (ix1 j)) j := by
  have h1 (k : Fin 256) : reluArr (act1 x w1 b1) (ix2 i k)
      = relu (dense (fun k => x (ix2 i k)) (fun k j => w1 (ix2 k j)) (fun j => b1 (ix1 j)) k) :=
    (relu_host _ bcast_S_S16384x256 (ix2 i k)).trans (congrArg relu (dense_host x w1 b1 _ _ i k))
  have hm (h : FVec Ideal S16384x256 .f32) (w : FVec Ideal S256x256 .f32) (b : FVec Ideal S256 .f32) (k : Fin 256) :
      siluArr (actMid h w b) (ix2 i k) = silu (dense (fun k => h (ix2 i k)) (fun k j => w (ix2 k j)) (fun j => b (ix1 j)) k) :=
    (silu_host _ bcast_S_S16384x256 (ix2 i k)).trans (congrArg silu (dense_host h w b _ _ i k))
  refine (dense_host _ w4 b4 _ _ i j).trans ?_
  unfold mlpRow
  refine congrArg (fun f => dense f (fun k j => w4 (ix2 k j)) (fun j => b4 (ix1 j)) j) (funext fun k => ?_)
  refine (hm _ w3 b3 k).trans (congrArg (fun f => silu (dense f (fun k j => w3 (ix2 k j)) (fun j => b3 (ix1 j)) k)) (funext fun k => ?_))
  refine (hm _ w2 b2 k).trans (congrArg (fun f => silu (dense f (fun k j => w2 (ix2 k j)) (fun j => b2 (ix1 j)) k)) (funext fun k => ?_))
  exact h1 k

variable (m : (ℓ : Loc nD τ sig) → Buf (Elt Ideal) ℓ)

/-- The reference's result, layer by layer. -/
theorem res_eq (c : Dev nD) :
    Cert.ReferenceIdeal.Value.res_out0 (F := Ideal) m c
      = actLast (siluArr (actMid (siluArr (actMid (reluArr (act1 (m ((c : Thread nD τ).loc main_arg1)) (m ((c : Thread nD τ).loc main_arg2))
          (m ((c : Thread nD τ).loc main_arg3)))) (m ((c : Thread nD τ).loc main_arg4)) (m ((c : Thread nD τ).loc main_arg5))))
          (m ((c : Thread nD τ).loc main_arg6)) (m ((c : Thread nD τ).loc main_arg7)))) (m ((c : Thread nD τ).loc main_arg8))
          (m ((c : Thread nD τ).loc main_arg9)) := by
  unfold Cert.ReferenceIdeal.Value.res_out0 Cert.ReferenceIdeal.Value.res_main_v18
  rfl

/-- From any memory with every counter at zero the reference ends with its arguments as they were and every counter at
    zero. -/
theorem ref_frame : Cert.quiescent_ReferenceIdeal := fun m ρ _ =>
  (θ_run defs _ _).mono (fun r h => ⟨fun c => (h c).2, sem_eq_zero_of_no_sems (by decide) r.2⟩)
    (Cert.ReferenceIdeal.Value.run (F := Ideal) m ρ)

end Cert.Proof.Mlp.Ref

end
-- ==== Proof.Equation.lean ====
/-
  The equation: over the extended reals the array the kernel leaves is the reference's result on the same arguments
  (`out_eq_ref`). Row `1024 b + r` of it is row `r` of block `b` through the network with the arguments' own weights and
  biases: the host part's casts change no value here, and its reshapes give each bias a leading axis of extent one.
-/
module

public import proofs.«01_k».proof.Proof.Run
public import proofs.«01_k».proof.Proof.Block
public import proofs.«01_k».proof.Proof.Reference

@[expose] public section

noncomputable section

namespace Cert.Proof.Mlp

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ)

/-! ## What the host part hands the region -/

/-- The first weights, cast: the argument's values. -/
theorem V_w1 (c : Dev nD) : (V m c main_v0 : S192x256.Idx → EReal) = m ((c : Thread nD τ).loc main_arg2) := by
  show StableHlo.after hostOps0 (fun b => m (c, b)) (Proc.devRef .tc main_v0) = _
  simp only [hostOps0, List.flatten_cons, List.flatten_nil, List.append_nil, List.cons_append, List.nil_append]
  after_results_simp
  all_goals rfl
/-- The second weights, cast. -/
theorem V_w2 (c : Dev nD) : (V m c main_v2 : S256x256.Idx → EReal) = m ((c : Thread nD τ).loc main_arg4) := by
  show StableHlo.after hostOps0 (fun b => m (c, b)) (Proc.devRef .tc main_v2) = _
  simp only [hostOps0, List.flatten_cons, List.flatten_nil, List.append_nil, List.cons_append, List.nil_append]
  after_results_simp
  all_goals rfl
/-- The third weights, cast. -/
theorem V_w3 (c : Dev nD) : (V m c main_v4 : S256x256.Idx → EReal) = m ((c : Thread nD τ).loc main_arg6) := by
  show StableHlo.after hostOps0 (fun b => m (c, b)) (Proc.devRef .tc main_v4) = _
  simp only [hostOps0, List.flatten_cons, List.flatten_nil, List.append_nil, List.cons_append, List.nil_append]
  after_results_simp
  all_goals rfl
/-- The fourth weights, cast. -/
theorem V_w4 (c : Dev nD) : (V m c main_v6 : S256x192.Idx → EReal) = m ((c : Thread nD τ).loc main_arg8) := by
  show StableHlo.after hostOps0 (fun b => m (c, b)) (Proc.devRef .tc main_v6) = _
  simp only [hostOps0, List.flatten_cons, List.flatten_nil, List.append_nil, List.cons_append, List.nil_append]
  after_results_simp
  all_goals rfl

/-- A vector given a leading axis of extent one, read on its one row. -/
theorem reshape_row {n : ℕ} (b : (⟨1, ![n]⟩ : Shape).Idx → EReal) (h : (⟨1, ![n]⟩ : Shape).ShapeCasts ⟨2, ![1, n]⟩) (j : Fin n) :
    shapeCast ⟨2, ![1, n]⟩ b h (ix2 0 j) = b (ix1 j) := by
  refine shapeCast_apply b h (ix2 0 j) (ix1 j) ?_
  rw [Shape.rowMajor_val_one, Shape.rowMajor_val_two]
  show j.val = 0 * n + j.val
  omega

/-- The first bias, on its one row. -/
theorem V_b1 (c : Dev nD) (j : Fin 256) :
    (V m c main_v1 : S1x256.Idx → EReal) (ix2 0 j) = (m ((c : Thread nD τ).loc main_arg3) : S256.Idx → EReal) (ix1 j) := by
  refine Eq.trans (congrFun (?_ : V m c main_v1 = shapeCast S1x256 (m ((c : Thread nD τ).loc main_arg3) : S256.Idx → EReal) shapeCasts_S256_S1x256) _) (reshape_row _ _ j)
  show StableHlo.after hostOps0 (fun b => m (c, b)) (Proc.devRef .tc main_v1) = _
  simp only [hostOps0, List.flatten_cons, List.flatten_nil, List.append_nil, List.cons_append, List.nil_append]
  after_results_simp
  all_goals rfl
/-- The second bias. -/
theorem V_b2 (c : Dev nD) (j : Fin 256) :
    (V m c main_v3 : S1x256.Idx → EReal) (ix2 0 j) = (m ((c : Thread nD τ).loc main_arg5) : S256.Idx → EReal) (ix1 j) := by
  refine Eq.trans (congrFun (?_ : V m c main_v3 = shapeCast S1x256 (m ((c : Thread nD τ).loc main_arg5) : S256.Idx → EReal) shapeCasts_S256_S1x256) _) (reshape_row _ _ j)
  show StableHlo.after hostOps0 (fun b => m (c, b)) (Proc.devRef .tc main_v3) = _
  simp only [hostOps0, List.flatten_cons, List.flatten_nil, List.append_nil, List.cons_append, List.nil_append]
  after_results_simp
  all_goals rfl
/-- The third bias. -/
theorem V_b3 (c : Dev nD) (j : Fin 256) :
    (V m c main_v5 : S1x256.Idx → EReal) (ix2 0 j) = (m ((c : Thread nD τ).loc main_arg7) : S256.Idx → EReal) (ix1 j) := by
  refine Eq.trans (congrFun (?_ : V m c main_v5 = shapeCast S1x256 (m ((c : Thread nD τ).loc main_arg7) : S256.Idx → EReal) shapeCasts_S256_S1x256) _) (reshape_row _ _ j)
  show StableHlo.after hostOps0 (fun b => m (c, b)) (Proc.devRef .tc main_v5) = _
  simp only [hostOps0, List.flatten_cons, List.flatten_nil, List.append_nil, List.cons_append, List.nil_append]
  after_results_simp
  all_goals rfl
/-- The fourth bias. -/
theorem V_b4 (c : Dev nD) (j : Fin 192) :
    (V m c main_v7 : S1x192.Idx → EReal) (ix2 0 j) = (m ((c : Thread nD τ).loc main_arg9) : S192.Idx → EReal) (ix1 j) := by
  refine Eq.trans (congrFun (?_ : V m c main_v7 = shapeCast S1x192 (m ((c : Thread nD τ).loc main_arg9) : S192.Idx → EReal) shapeCasts_S192_S1x192) _) (reshape_row _ _ j)
  show StableHlo.after hostOps0 (fun b => m (c, b)) (Proc.devRef .tc main_v7) = _
  simp only [hostOps0, List.flatten_cons, List.flatten_nil, List.append_nil, List.cons_append, List.nil_append]
  after_results_simp
  all_goals rfl

/-! ## The array the kernel leaves -/

/-- Row `i` of the array the kernel leaves is the network on row `i` of `x`. -/
theorem outArr_apply (c : Dev nD) (i : Fin 16384) (j : Fin 192) :
    outArr m c (ix2 i j)
      = mlpRow (fun k => (m ((c : Thread nD τ).loc main_arg1) : S16384x192.Idx → EReal) (ix2 i k))
          (fun k j => (m ((c : Thread nD τ).loc main_arg2) : S192x256.Idx → EReal) (ix2 k j))
          (fun j => (m ((c : Thread nD τ).loc main_arg3) : S256.Idx → EReal) (ix1 j))
          (fun k j => (m ((c : Thread nD τ).loc main_arg4) : S256x256.Idx → EReal) (ix2 k j))
          (fun j => (m ((c : Thread nD τ).loc main_arg5) : S256.Idx → EReal) (ix1 j))
          (fun k j => (m ((c : Thread nD τ).loc main_arg6) : S256x256.Idx → EReal) (ix2 k j))
          (fun j => (m ((c : Thread nD τ).loc main_arg7) : S256.Idx → EReal) (ix1 j))
          (fun k j => (m ((c : Thread nD τ).loc main_arg8) : S256x192.Idx → EReal) (ix2 k j))
          (fun j => (m ((c : Thread nD τ).loc main_arg9) : S192.Idx → EReal) (ix1 j)) j := by
  have hb : i.val / 1024 < 16 := by have := i.isLt; omega
  have hr : i.val % 1024 < 1024 := Nat.mod_lt _ (by decide)
  have hi : i.val = 1024 * (i.val / 1024) + i.val % 1024 := by omega
  have hx (k : Fin 192) : (xblk ⟨i.val / 1024, hb⟩).view.read (Elt Ideal) (xArr m c) (ix2 ⟨i.val % 1024, hr⟩ k)
      = (m ((c : Thread nD τ).loc main_arg1) : S16384x192.Idx → EReal) (ix2 i k) := by
    refine congrArg (m ((c : Thread nD τ).loc main_arg1) : S16384x192.Idx → EReal) (funext fun a => Fin.ext ?_)
    match a with
    | ⟨0, _⟩ => show 1024 * (i.val / 1024) + 1 * (i.val % 1024) = i.val; omega
    | ⟨1, _⟩ => show 0 + 1 * k.val = k.val; omega
  unfold outArr
  rw [joined_apply (outBlk m c) (ix2 i j) ⟨i.val / 1024, hb⟩ (ix2 ⟨i.val % 1024, hr⟩ j) hi rfl]
  unfold outBlk
  refine (mlpBlock_apply _ _ _ _ _ _ _ _ _ ⟨i.val % 1024, hr⟩ j).trans ?_
  rw [funext hx, V_w1, V_w2, V_w3, V_w4, funext (V_b1 m c), funext (V_b2 m c), funext (V_b3 m c), funext (V_b4 m c)]

/-- From memories that agree on the arguments, the array the kernel leaves is the reference's result. -/
theorem out_eq_ref (m' : (ℓ : Loc Cert.ReferenceIdeal.nD Cert.ReferenceIdeal.τ Cert.ReferenceIdeal.sig) → Buf (Elt Ideal) ℓ) (c : Dev nD)
    (e1 : m' ((c : Thread nD τ).loc Cert.ReferenceIdeal.main_arg1) = m ((c : Thread nD τ).loc main_arg1))
    (e2 : m' ((c : Thread nD τ).loc Cert.ReferenceIdeal.main_arg2) = m ((c : Thread nD τ).loc main_arg2))
    (e3 : m' ((c : Thread nD τ).loc Cert.ReferenceIdeal.main_arg3) = m ((c : Thread nD τ).loc main_arg3))
    (e4 : m' ((c : Thread nD τ).loc Cert.ReferenceIdeal.main_arg4) = m ((c : Thread nD τ).loc main_arg4))
    (e5 : m' ((c : Thread nD τ).loc Cert.ReferenceIdeal.main_arg5) = m ((c : Thread nD τ).loc main_arg5))
    (e6 : m' ((c : Thread nD τ).loc Cert.ReferenceIdeal.main_arg6) = m ((c : Thread nD τ).loc main_arg6))
    (e7 : m' ((c : Thread nD τ).loc Cert.ReferenceIdeal.main_arg7) = m ((c : Thread nD τ).loc main_arg7))
    (e8 : m' ((c : Thread nD τ).loc Cert.ReferenceIdeal.main_arg8) = m ((c : Thread nD τ).loc main_arg8))
    (e9 : m' ((c : Thread nD τ).loc Cert.ReferenceIdeal.main_arg9) = m ((c : Thread nD τ).loc main_arg9)) :
    Cert.ReferenceIdeal.Value.res_out0 (F := Ideal) m' c = outArr m c := by
  rw [Ref.res_eq, e1, e2, e3, e4, e5, e6, e7, e8, e9]
  funext y
  obtain ⟨i, j, rfl⟩ : ∃ (i : Fin 16384) (j : Fin 192), y = ix2 i j := ⟨y 0, y 1, eq_ix2 y⟩
  exact (Ref.layers_apply _ _ _ _ _ _ _ _ _ i j).trans (outArr_apply m c i j).symm

end Cert.Proof.Mlp

end
-- ==== Proof.lean ====
/-
  The certificate: a four-layer network over 16384 rows, streamed through VMEM in sixteen blocks of 1024 rows.

  `Cert.Claim` has five parts. The kernel ends with its arguments as they were and every semaphore counter at zero, at the
  machine's floats (`frame_kernel`) and over the extended reals (`frame_ideal`): both are `run_main`, which holds at any
  float values, and the kernel and its idealization are one program (`same_defs`). The reference does too (`Ref.ref_frame`). The idealization
  keeps every operation (`trivial`). Over the extended reals the kernel and the reference leave the same result
  (`same_result`): each row of it is the network on that row of `x`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Run
public import proofs.«01_k».proof.Proof.Block
public import proofs.«01_k».proof.Proof.Reference
public import proofs.«01_k».proof.Proof.Equation
public import Idealize.ShloMosaic.Adequacy
public import Idealize.ShloMosaic.Init

@[expose] public section

noncomputable section

namespace Cert.Proof

open Idealize.ShloMosaic Idealize.SL.Sem
open Cert.Proof.Mlp

/-- At the machine's floats the kernel ends with its arguments as they were and every counter at zero. -/
theorem frame_kernel : Cert.quiescent_Kernel := by
  intro m ρ _
  rw [same_defs, same_main]
  exact (θ_run Cert.KernelIdeal.defs _ _).mono (fun _ h => ⟨fun c => (h.1 c).2, h.2⟩) (run_main (F := Bits) m ρ)

/-- Over the extended reals it does too. -/
theorem frame_ideal : Cert.quiescent_KernelIdeal := fun m ρ _ =>
  (θ_run Cert.KernelIdeal.defs _ _).mono (fun _ h => ⟨fun c => (h.1 c).2, h.2⟩) (run_main (F := Ideal) m ρ)

/-- Over the extended reals, from the same arguments, the kernel and the reference leave the same result. -/
theorem same_result : Cert.algebraic_KernelIdeal_ReferenceIdeal := by
  intro m ρ m' ρ' _ hagree
  refine ⟨fun c => outArr m c,
    (θ_run Cert.KernelIdeal.defs _ _).mono (fun _ h c => h.1 c) (run_main (F := Ideal) m ρ),
    (θ_run Cert.ReferenceIdeal.defs _ _).mono (fun _ h c => ⟨(h c).1.trans ?_, (h c).2⟩)
      (Cert.ReferenceIdeal.Value.run (F := Ideal) m' ρ')⟩
  obtain ⟨_, e1, e2, e3, e4, e5, e6, e7, e8, e9⟩ := hagree c
  exact out_eq_ref m m' c e1 e2 e3 e4 e5 e6 e7 e8 e9

/-- The certificate's claim. -/
theorem claim : Cert.Claim := ⟨Cert.Kernel.Gen.facts, Cert.KernelIdeal.Gen.facts, Cert.ReferenceIdeal.Gen.facts,
  frame_kernel, frame_ideal, Ref.ref_frame, trivial, same_result⟩

end Cert.Proof

end
